-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v20_0)) (v1 : (c : Dev Cert.FfnIdeal.nD) → Buf (Elt Ideal) ((c.tc : Thread Cert.FfnIdeal.nD Cert.FfnIdeal.τ).loc Cert.FfnIdeal.main_v20_1)) (v2 : (c : Dev Cert.FfnIdeal.nD) → Buf (Elt Ideal) ((c.tc : Thread Cert.FfnIdeal.nD Cert.FfnIdeal.τ).loc Cert.FfnIdeal.main_v20_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v20_0) = v0 c
          ∧ r.2.mem ((c.tc : Thread Cert.FfnIdeal.nD Cert.FfnIdeal.τ).loc Cert.FfnIdeal.main_v20_1) = v1 c
          ∧ r.2.mem ((c.tc : Thread Cert.FfnIdeal.nD Cert.FfnIdeal.τ).loc Cert.FfnIdeal.main_v20_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v50) = v1 c
          ∧ r.2.mem ((c.tc : Thread Cert.FfnRefIdeal.nD Cert.FfnRefIdeal.τ).loc Cert.FfnRefIdeal.main_v52) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v98) = v0 c
          ∧ r.2.mem ((c.tc : Thread Cert.ProjRefIdeal.nD Cert.ProjRefIdeal.τ).loc Cert.ProjRefIdeal.main_v99) = v1 c
          ∧ r.2.mem ((c.tc : Thread Cert.ProjRefIdeal.nD Cert.ProjRefIdeal.τ).loc Cert.ProjRefIdeal.main_v46) = v2 c
          ∧ r.2.mem ((c.tc : Thread Cert.ProjRefIdeal.nD Cert.ProjRefIdeal.τ).loc Cert.ProjRefIdeal.main_v60) = v3 c
          ∧ r.2.mem ((c.tc : Thread Cert.ProjRefIdeal.nD Cert.ProjRefIdeal.τ).loc Cert.ProjRefIdeal.main_v96) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)) →
    ∃ (v0 : (c : Dev Cert.FfnSIdeal.nD) → Buf (Elt Ideal) ((c.tc : Thread Cert.FfnSIdeal.nD Cert.FfnSIdeal.τ).loc Cert.FfnSIdeal.main_v26_0)) (v1 : (c : Dev Cert.FfnSIdeal.nD) → Buf (Elt Ideal) ((c.tc : Thread Cert.FfnSIdeal.nD Cert.FfnSIdeal.τ).loc Cert.FfnSIdeal.main_v26_1)) (v2 : (c : Dev Cert.FfnSIdeal.nD) → Buf (Elt Ideal) ((c.tc : Thread Cert.FfnSIdeal.nD Cert.FfnSIdeal.τ).loc Cert.FfnSIdeal.main_v26_2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v26_0) = v0 c
          ∧ r.2.mem ((c.tc : Thread Cert.FfnSIdeal.nD Cert.FfnSIdeal.τ).loc Cert.FfnSIdeal.main_v26_1) = v1 c
          ∧ r.2.mem ((c.tc : Thread Cert.FfnSIdeal.nD Cert.FfnSIdeal.τ).loc Cert.FfnSIdeal.main_v26_2) = v2 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v49) = v0 c
          ∧ r.2.mem ((c.tc : Thread Cert.FfnSRefIdeal.nD Cert.FfnSRefIdeal.τ).loc Cert.FfnSRefIdeal.main_v51) = v1 c
          ∧ r.2.mem ((c.tc : Thread Cert.FfnSRefIdeal.nD Cert.FfnSRefIdeal.τ).loc Cert.FfnSRefIdeal.main_v53) = v2 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hFfnS : Cert.FfnS.Facts) (hFfnSIdeal : Cert.FfnSIdeal.Facts) (hFfnSRefIdeal : Cert.FfnSRefIdeal.Facts) (hMerge : Cert.Merge.Facts) (hMergeIdeal : Cert.MergeIdeal.Facts) (hMergeRefIdeal : Cert.MergeRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Merge (hMerge := hMerge)
    ∧ quiescent_MergeIdeal (hMergeIdeal := hMergeIdeal)
    ∧ quiescent_MergeRefIdeal (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_FfnS_FfnSIdeal
    ∧ algebraic_FfnSIdeal_FfnSRefIdeal (hFfnSIdeal := hFfnSIdeal) (hFfnSRefIdeal := hFfnSRefIdeal)
    ∧ preserves_Merge_MergeIdeal
    ∧ algebraic_MergeIdeal_MergeRefIdeal (hMergeIdeal := hMergeIdeal) (hMergeRefIdeal := hMergeRefIdeal)
-- ==== Ffn.lean ====
abbrev S16384x2048 : Shape := ⟨2, ![16384, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S3x5504 : Shape := ⟨2, ![3, 5504]⟩
abbrev S3x5632 : Shape := ⟨2, ![3, 5632]⟩
abbrev S3x11264 : Shape := ⟨2, ![3, 11264]⟩
abbrev S5504 : Shape := ⟨1, ![5504]⟩
abbrev S5632 : Shape := ⟨1, ![5632]⟩
abbrev S11264 : Shape := ⟨1, ![11264]⟩
abbrev S1x11264 : Shape := ⟨2, ![1, 11264]⟩
abbrev S1x2048 : Shape := ⟨2, ![1, 2048]⟩
abbrev S32x2x5632 : Shape := ⟨3, ![32, 2, 5632]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S528x2048 : Shape := ⟨2, ![528, 2048]⟩
abbrev S528x512 : Shape := ⟨2, ![528, 512]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x512 : Shape := ⟨2, ![512, 512]⟩
abbrev S2x512 : Shape := ⟨2, ![2, 512]⟩

abbrev nBuf : Space → Nat
  | .hbm => 43
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S2048x5504, .f32⟩
  | .hbm, ⟨7, _⟩ => ⟨S_, .i32⟩
  | .hbm, ⟨8, _⟩ => ⟨S_, .f32⟩
  | .hbm, ⟨9, _⟩ => ⟨S2048x5632, .f32⟩
  | .hbm, ⟨10, _⟩ => ⟨S2048x5504, .f32⟩
  | .hbm, ⟨11, _⟩ => ⟨S_, .i32⟩
  | .hbm, ⟨12, _⟩ => ⟨S_, .f32⟩
  | .hbm, ⟨13, _⟩ => ⟨S2048x5632, .f32⟩
  | .hbm, ⟨14, _⟩ => ⟨S2048x11264, .f32⟩
  | .hbm, ⟨15, _⟩ => ⟨S2048x11264, .bf16⟩
  | .hbm, ⟨16, _⟩ => ⟨S_, .i32⟩
  | .hbm, ⟨17, _⟩ => ⟨S_, .f32⟩
  | .hbm, ⟨18, _⟩ => ⟨S5632x2048, .f32⟩
  | .hbm, ⟨19, _⟩ => ⟨S5632x2048, .bf16⟩
  | .hbm, ⟨20, _⟩ => ⟨S3x5504, .f32⟩
  | .hbm, ⟨21, _⟩ => ⟨S_, .i32⟩
  | .hbm, ⟨22, _⟩ => ⟨S_, .f32⟩
  | .hbm, ⟨23, _⟩ => ⟨S3x5632, .f32⟩
  | .hbm, ⟨24, _⟩ => ⟨S3x5504, .f32⟩
  | .hbm, ⟨25, _⟩ => ⟨S_, .i32⟩
  | .hbm, ⟨26, _⟩ => ⟨S_, .f32⟩
  | .hbm, ⟨27, _⟩ => ⟨S3x5632, .f32⟩
  | .hbm, ⟨28, _⟩ => ⟨S3x11264, .f32⟩
  | .hbm, ⟨29, _⟩ => ⟨S5504, .f32⟩
  | .hbm, ⟨30, _⟩ => ⟨S_, .i32⟩
  | .hbm, ⟨31, _⟩ => ⟨S_, .f32⟩
  | .hbm, ⟨32, _⟩ => ⟨S5632, .f32⟩
  | .hbm, ⟨33, _⟩ => ⟨S5504, .f32⟩
  | .hbm, ⟨34, _⟩ => ⟨S_, .i32⟩
  | .hbm, ⟨35, _⟩ => ⟨S_, .f32⟩
  | .hbm, ⟨36, _⟩ => ⟨S5632, .f32⟩
  | .hbm, ⟨37, _⟩ => ⟨S11264, .f32⟩
  | .hbm, ⟨38, _⟩ => ⟨S1x11264, .f32⟩
  | .hbm, ⟨39, _⟩ => ⟨S1x2048, .f32⟩
  | .hbm, ⟨40, _⟩ => ⟨S16384x2048, .f32⟩
  | .hbm, ⟨41, _⟩ => ⟨S32x2x5632, .f32⟩
  | .hbm, ⟨42, _⟩ => ⟨S32x2x5632, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S512x2048, .f32⟩
  | .local _ .vmem, ⟨20, _⟩ => ⟨S512x2048, .f32⟩
  | .local _ .vmem, ⟨21, _⟩ => ⟨S1x2x512, .f32⟩
  | .local _ .vmem, ⟨22, _⟩ => ⟨S1x2x512, .f32⟩
  | .local _ .vmem, ⟨23, _⟩ => ⟨S1x2x512, .f32⟩
  | .local _ .vmem, ⟨24, _⟩ => ⟨S1x2x512, .f32⟩
  | .local _ .vmem, ⟨25, _⟩ => ⟨S528x2048, .bf16⟩
  | .local _ .vmem, ⟨26, _⟩ => ⟨S528x512, .f32⟩
  | .local _ .vmem, ⟨27, _⟩ => ⟨S528x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_call4_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_call5_v0 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_call6_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S16384x2048 : Shape := ⟨2, ![16384, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11008 : Shape := ⟨3, ![8, 2048, 11008]⟩
abbrev S8x2x11008 : Shape := ⟨3, ![8, 2, 11008]⟩
abbrev S8x2050x11008 : Shape := ⟨3, ![8, 2050, 11008]⟩
abbrev S1x11008 : Shape := ⟨2, ![1, 11008]⟩
abbrev S1x1x11008 : Shape := ⟨3, ![1, 1, 11008]⟩
abbrev S8x2048x5504 : Shape := ⟨3, ![8, 2048, 5504]⟩
abbrev S32x512x11008 : Shape := ⟨3, ![32, 512, 11008]⟩
abbrev S32x2x11008 : Shape := ⟨3, ![32, 2, 11008]⟩
abbrev S32x2x5504 : Shape := ⟨3, ![32, 2, 5504]⟩
abbrev S32x2x5632 : Shape := ⟨3, ![32, 2, 5632]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x2048x11008, .f32⟩
  | .hbm, ⟨24, _⟩ => ⟨S_, .f32⟩
  | .hbm, ⟨25, _⟩ => ⟨S8x2x11008, .f32⟩
  | .hbm, ⟨26, _⟩ => ⟨S8x2050x11008, .f32⟩
  | .hbm, ⟨27, _⟩ => ⟨S1x11008, .f32⟩
  | .hbm, ⟨28, _⟩ => ⟨S11008, .f32⟩
  | .hbm, ⟨29, _⟩ => ⟨S8x2048x11008, .f32⟩
  | .hbm, ⟨30, _⟩ => ⟨S1x1x11008, .f32⟩
  | .hbm, ⟨31, _⟩ => ⟨S8x2048x11008, .f32⟩
  | .hbm, ⟨32, _⟩ => ⟨S8x2048x11008, .f32⟩
  | .hbm, ⟨33, _⟩ => ⟨S1x1x11008, .f32⟩
  | .hbm, ⟨34, _⟩ => ⟨S8x2048x11008, .f32⟩
  | .hbm, ⟨35, _⟩ => ⟨S8x2048x11008, .f32⟩
  | .hbm, ⟨36, _⟩ => ⟨S1x11008, .f32⟩
  | .hbm, ⟨37, _⟩ => ⟨S11008, .f32⟩
  | .hbm, ⟨38, _⟩ => ⟨S8x2048x11008, .f32⟩
  | .hbm, ⟨39, _⟩ => ⟨S1x1x11008, .f32⟩
  | .hbm, ⟨40, _⟩ => ⟨S8x2048x11008, .f32⟩
  | .hbm, ⟨41, _⟩ => ⟨S8x2048x11008, .f32⟩
  | .hbm, ⟨42, _⟩ => ⟨S8x2048x11008, .f32⟩
  | .hbm, ⟨43, _⟩ => ⟨S1x11008, .f32⟩
  | .hbm, ⟨44, _⟩ => ⟨S11008, .f32⟩
  | .hbm, ⟨45, _⟩ => ⟨S8x2048x11008, .f32⟩
  | .hbm, ⟨46, _⟩ => ⟨S1x1x11008, .f32⟩
  | .hbm, ⟨47, _⟩ => ⟨S8x2048x11008, .f32⟩
  | .hbm, ⟨48, _⟩ => ⟨S8x2048x11008, .f32⟩
  | .hbm, ⟨49, _⟩ => ⟨S8x2048x11008, .f32⟩
  | .hbm, ⟨50, _⟩ => ⟨S8x2048x5504, .f32⟩
  | .hbm, ⟨51, _⟩ => ⟨S8x2048x5504, .f32⟩
  | .hbm, ⟨52, _⟩ => ⟨S8x2048x5504, .f32⟩
  | .hbm, ⟨53, _⟩ => ⟨S8x2048x5504, .f32⟩
  | .hbm, ⟨54, _⟩ => ⟨S_, .f32⟩
  | .hbm, ⟨55, _⟩ => ⟨S8x2048x5504, .f32⟩
  | .hbm, ⟨56, _⟩ => ⟨S8x2048x5504, .f32⟩
  | .hbm, ⟨57, _⟩ => ⟨S_, .f32⟩
  | .hbm, ⟨58, _⟩ => ⟨S8x2048x5504, .f32⟩
  | .hbm, ⟨59, _⟩ => ⟨S8x2048x5504, .f32⟩
  | .hbm, ⟨60, _⟩ => ⟨S8x2048x5504, .f32⟩
  | .hbm, ⟨61, _⟩ => ⟨S8x2048x5504, .f32⟩
  | .hbm, ⟨62, _⟩ => ⟨S8x2048x2048, .f32⟩
  | .hbm, ⟨63, _⟩ => ⟨S32x512x11008, .f32⟩
  | .hbm, ⟨64, _⟩ => ⟨S32x2x11008, .f32⟩
  | .hbm, ⟨65, _⟩ => ⟨S8x2048x2048, .f32⟩
  | .hbm, ⟨66, _⟩ => ⟨S16384x2048, .f32⟩
  | .hbm, ⟨67, _⟩ => ⟨S32x2x5504, .f32⟩
  | .hbm, ⟨68, _⟩ => ⟨S_, .i32⟩
  | .hbm, ⟨69, _⟩ => ⟨S_, .f32⟩
  | .hbm, ⟨70, _⟩ => ⟨S32x2x5632, .f32⟩
  | .hbm, ⟨71, _⟩ => ⟨S32x2x5504, .f32⟩
  | .hbm, ⟨72, _⟩ => ⟨S_, .i32⟩
  | .hbm, ⟨73, _⟩ => ⟨S_, .f32⟩
  | .hbm, ⟨74, _⟩ => ⟨S32x2x5632, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_c_3 : Ref sig .tc := ⟨.hbm, 72, rfl⟩
abbrev main_call2_v0 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x3328 : Shape := ⟨2, ![2048, 3328]⟩
abbrev S64 : Shape := ⟨1, ![64]⟩
abbrev S1024 : Shape := ⟨1, ![1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x2048 : Shape := ⟨2, ![1, 2048]⟩
abbrev S1x1024 : Shape := ⟨2, ![1, 1024]⟩
abbrev S16384x1024 : Shape := ⟨2, ![16384, 1024]⟩
abbrev S16384x128 : Shape := ⟨2, ![16384, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S2048x1024 : Shape := ⟨2, ![2048, 1024]⟩
abbrev S2048x256 : Shape := ⟨2, ![2048, 256]⟩
abbrev S256x256 : Shape := ⟨2, ![256, 256]⟩

abbrev nBuf : Space → Nat
  | .hbm => 24
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3328, .f32⟩
  | .hbm, ⟨3, _⟩ => ⟨S64, .f32⟩
  | .hbm, ⟨4, _⟩ => ⟨S64, .f32⟩
  | .hbm, ⟨5, _⟩ => ⟨S1024, .f32⟩
  | .hbm, ⟨6, _⟩ => ⟨S1024, .f32⟩
  | .hbm, ⟨7, _⟩ => ⟨S2048x3328, .bf16⟩
  | .hbm, ⟨8, _⟩ => ⟨S1x64, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S1x64, .f32⟩
  | .hbm, ⟨13, _⟩ => ⟨S1x1x1x64, .f32⟩
  | .hbm, ⟨14, _⟩ => ⟨S1x1x2x64, .f32⟩
  | .hbm, ⟨15, _⟩ => ⟨S1x128, .f32⟩
  | .hbm, ⟨16, _⟩ => ⟨S1x2048, .f32⟩
  | .hbm, ⟨17, _⟩ => ⟨S1x1024, .f32⟩
  | .hbm, ⟨18, _⟩ => ⟨S1x1024, .f32⟩
  | .hbm, ⟨19, _⟩ => ⟨S16384x1024, .bf16⟩
  | .hbm, ⟨20, _⟩ => ⟨S16384x128, .f32⟩
  | .hbm, ⟨21, _⟩ => ⟨S16384x128, .f32⟩
  | .hbm, ⟨22, _⟩ => ⟨S16384x1024, .f32⟩
  | .hbm, ⟨23, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3328, .bf16⟩
  | .local _ .vmem, ⟨4, _⟩ => ⟨S1x128, .f32⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16384x2048 : Shape := ⟨2, ![16384, 2048]⟩
abbrev S2048 : Shape := ⟨1, ![2048]⟩
abbrev S2048x3328 : Shape := ⟨2, ![2048, 3328]⟩
abbrev S64 : Shape := ⟨1, ![64]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x3328 : Shape := ⟨2, ![16384, 3328]⟩
abbrev S16384x1024 : Shape := ⟨2, ![16384, 1024]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S16384x128 : Shape := ⟨2, ![16384, 128]⟩
abbrev S16384x2x64 : Shape := ⟨3, ![16384, 2, 64]⟩
abbrev S16384x2 : Shape := ⟨2, ![16384, 2]⟩
abbrev S16384x2x1 : Shape := ⟨3, ![16384, 2, 1]⟩
abbrev S1x1024 : Shape := ⟨2, ![1, 1024]⟩

abbrev nBuf : Space → Nat
  | .hbm => 130
  | .vmem => 0
  | .smem => 0
  | _ => 0

abbrev hbmTy0_0 (i : Nat) : BufTy := match i % 128 with
  | 0 => ⟨S16384x2048, .f32⟩
  | 1 => ⟨S2048, .f32⟩
  | 2 => ⟨S2048x3328, .f32⟩
  | 3 => ⟨S64, .f32⟩
  | 4 => ⟨S64, .f32⟩
  | 5 => ⟨S1024, .f32⟩
  | 6 => ⟨S1024, .f32⟩
  | 7 => ⟨S16384x2048, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x2048, .f32⟩
  | 19 => ⟨S16384x2048, .f32⟩
  | 20 => ⟨S1x2048, .f32⟩
  | 21 => ⟨S16384x2048, .f32⟩
  | 22 => ⟨S16384x2048, .f32⟩
  | 23 => ⟨S16384x3328, .f32⟩
  | 24 => ⟨S16384x1024, .f32⟩
  | 25 => ⟨S16384x16x64, .f32⟩
  | 26 => ⟨S16384x16x64, .f32⟩
  | 27 => ⟨S_, .f32⟩
  | 28 => ⟨S16384x16, .f32⟩
  | 29 => ⟨S16384x16x1, .f32⟩
  | 30 => ⟨S_, .f32⟩
  | 31 => ⟨S16384x16x1, .f32⟩
  | 32 => ⟨S16384x16x1, .f32⟩
  | 33 => ⟨S_, .f32⟩
  | 34 => ⟨S16384x16x1, .f32⟩
  | 35 => ⟨S16384x16x1, .f32⟩
  | 36 => ⟨S16384x16x1, .f32⟩
  | 37 => ⟨S16384x16x64, .f32⟩
  | 38 => ⟨S16384x16x64, .f32⟩
  | 39 => ⟨S1x1x64, .f32⟩
  | 40 => ⟨S16384x16x64, .f32⟩
  | 41 => ⟨S16384x16x64, .f32⟩
  | 42 => ⟨S_, .f32⟩
  | 43 => ⟨S16384x16x64, .f32⟩
  | 44 => ⟨S16384x16x64, .f32⟩
  | 45 => ⟨S16384x128, .f32⟩
  | 46 => ⟨S16384x2x64, .f32⟩
  | 47 => ⟨S16384x2x64, .f32⟩
  | 48 => ⟨S_, .f32⟩
  | 49 => ⟨S16384x2, .f32⟩
  | 50 => ⟨S16384x2x1, .f32⟩
  | 51 => ⟨S_, .f32⟩
  | 52 => ⟨S16384x2x1, .f32⟩
  | 53 => ⟨S16384x2x1, .f32⟩
  | 54 => ⟨S_, .f32⟩
  | 55 => ⟨S16384x2x1, .f32⟩
  | 56 => ⟨S16384x2x1, .f32⟩
  | 57 => ⟨S16384x2x1, .f32⟩
  | 58 => ⟨S16384x2x64, .f32⟩
  | 59 => ⟨S16384x2x64, .f32⟩
  | 60 => ⟨S1x1x64, .f32⟩
  | 61 => ⟨S16384x2x64, .f32⟩
  | 62 => ⟨S16384x2x64, .f32⟩
  | 63 => ⟨S16384x128, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S16384x1024, .f32⟩
  | 100 => ⟨S_, .f32⟩
  | 101 => ⟨S16384, .f32⟩
  | 102 => ⟨S16384x1, .f32⟩
  | 103 => ⟨S_, .f32⟩
  | 104 => ⟨S16384x1, .f32⟩
  | 105 => ⟨S16384x1, .f32⟩
  | 106 => ⟨S16384x1024, .f32⟩
  | 107 => ⟨S16384x1024, .f32⟩
  | 108 => ⟨S16384x1024, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S_, .f32⟩
  | 116 => ⟨S16384x1, .f32⟩
  | 117 => ⟨S16384x1, .f32⟩
  | 118 => ⟨S16384x1, .f32⟩
  | 119 => ⟨S16384x1024, .f32⟩
  | 120 => ⟨S16384x1024, .f32⟩
  | 121 => ⟨S1x1024, .f32⟩
  | 122 => ⟨S16384x1024, .f32⟩
  | 123 => ⟨S16384x1024, .f32⟩
  | 124 => ⟨S1x1024, .f32⟩
  | 125 => ⟨S16384x1024, .f32⟩
  | 126 => ⟨S16384x1024, .f32⟩
  | 127 => ⟨S16384x1024, .f32⟩
  | _ => ⟨S16384x2048, .f32⟩

abbrev hbmTy0_1 (i : Nat) : BufTy := match i % 128 with
  | 0 => ⟨S16384x1024, .bf16⟩
  | 1 => ⟨S16384x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_cst_21 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnS.lean ====
abbrev S512x2048 : Shape := ⟨2, ![512, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S128x2x11008 : Shape := ⟨3, ![128, 2, 11008]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S3x5504 : Shape := ⟨2, ![3, 5504]⟩
abbrev S3x5632 : Shape := ⟨2, ![3, 5632]⟩
abbrev S3x11264 : Shape := ⟨2, ![3, 11264]⟩
abbrev S5504 : Shape := ⟨1, ![5504]⟩
abbrev S5632 : Shape := ⟨1, ![5632]⟩
abbrev S11264 : Shape := ⟨1, ![11264]⟩
abbrev S1x11264 : Shape := ⟨2, ![1, 11264]⟩
abbrev S2x128x11008 : Shape := ⟨3, ![2, 128, 11008]⟩
abbrev S2x128x5504 : Shape := ⟨3, ![2, 128, 5504]⟩
abbrev S2x128x5632 : Shape := ⟨3, ![2, 128, 5632]⟩
abbrev S2x128x11264 : Shape := ⟨3, ![2, 128, 11264]⟩
abbrev S1x2048 : Shape := ⟨2, ![1, 2048]⟩
abbrev S2048x512 : Shape := ⟨2, ![2048, 512]⟩
abbrev S3x512 : Shape := ⟨2, ![3, 512]⟩
abbrev S1x512 : Shape := ⟨2, ![1, 512]⟩
abbrev S2x128x512 : Shape := ⟨3, ![2, 128, 512]⟩
abbrev S512 : Shape := ⟨1, ![512]⟩
abbrev S512x1 : Shape := ⟨2, ![512, 1]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 54
  | .vmem => 26
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S128x2x11008, .f32⟩
  | .hbm, ⟨7, _⟩ => ⟨S2048x5504, .f32⟩
  | .hbm, ⟨8, _⟩ => ⟨S_, .i32⟩
  | .hbm, ⟨9, _⟩ => ⟨S_, .f32⟩
  | .hbm, ⟨10, _⟩ => ⟨S2048x5632, .f32⟩
  | .hbm, ⟨11, _⟩ => ⟨S2048x5504, .f32⟩
  | .hbm, ⟨12, _⟩ => ⟨S_, .i32⟩
  | .hbm, ⟨13, _⟩ => ⟨S_, .f32⟩
  | .hbm, ⟨14, _⟩ => ⟨S2048x5632, .f32⟩
  | .hbm, ⟨15, _⟩ => ⟨S2048x11264, .f32⟩
  | .hbm, ⟨16, _⟩ => ⟨S2048x11264, .bf16⟩
  | .hbm, ⟨17, _⟩ => ⟨S_, .i32⟩
  | .hbm, ⟨18, _⟩ => ⟨S_, .f32⟩
  | .hbm, ⟨19, _⟩ => ⟨S5632x2048, .f32⟩
  | .hbm, ⟨20, _⟩ => ⟨S5632x2048, .bf16⟩
  | .hbm, ⟨21, _⟩ => ⟨S3x5504, .f32⟩
  | .hbm, ⟨22, _⟩ => ⟨S_, .i32⟩
  | .hbm, ⟨23, _⟩ => ⟨S_, .f32⟩
  | .hbm, ⟨24, _⟩ => ⟨S3x5632, .f32⟩
  | .hbm, ⟨25, _⟩ => ⟨S3x5504, .f32⟩
  | .hbm, ⟨26, _⟩ => ⟨S_, .i32⟩
  | .hbm, ⟨27, _⟩ => ⟨S_, .f32⟩
  | .hbm, ⟨28, _⟩ => ⟨S3x5632, .f32⟩
  | .hbm, ⟨29, _⟩ => ⟨S3x11264, .f32⟩
  | .hbm, ⟨30, _⟩ => ⟨S5504, .f32⟩
  | .hbm, ⟨31, _⟩ => ⟨S_, .i32⟩
  | .hbm, ⟨32, _⟩ => ⟨S_, .f32⟩
  | .hbm, ⟨33, _⟩ => ⟨S5632, .f32⟩
  | .hbm, ⟨34, _⟩ => ⟨S5504, .f32⟩
  | .hbm, ⟨35, _⟩ => ⟨S_, .i32⟩
  | .hbm, ⟨36, _⟩ => ⟨S_, .f32⟩
  | .hbm, ⟨37, _⟩ => ⟨S5632, .f32⟩
  | .hbm, ⟨38, _⟩ => ⟨S11264, .f32⟩
  | .hbm, ⟨39, _⟩ => ⟨S1x11264, .f32⟩
  | .hbm, ⟨40, _⟩ => ⟨S2x128x11008, .f32⟩
  | .hbm, ⟨41, _⟩ => ⟨S2x128x5504, .f32⟩
  | .hbm, ⟨42, _⟩ => ⟨S_, .i32⟩
  | .hbm, ⟨43, _⟩ => ⟨S_, .f32⟩
  | .hbm, ⟨44, _⟩ => ⟨S2x128x5632, .f32⟩
  | .hbm, ⟨45, _⟩ => ⟨S2x128x5504, .f32⟩
  | .hbm, ⟨46, _⟩ => ⟨S_, .i32⟩
  | .hbm, ⟨47, _⟩ => ⟨S_, .f32⟩
  | .hbm, ⟨48, _⟩ => ⟨S2x128x5632, .f32⟩
  | .hbm, ⟨49, _⟩ => ⟨S2x128x11264, .f32⟩
  | .hbm, ⟨50, _⟩ => ⟨S1x2048, .f32⟩
  | .hbm, ⟨51, _⟩ => ⟨S512x2048, .f32⟩
  | .hbm, ⟨52, _⟩ => ⟨S2x128x5632, .f32⟩
  | .hbm, ⟨53, _⟩ => ⟨S2x128x5632, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S2x128x512, .f32⟩
  | .local _ .vmem, ⟨17, _⟩ => ⟨S2x128x512, .f32⟩
  | .local _ .vmem, ⟨18, _⟩ => ⟨S2x128x512, .f32⟩
  | .local _ .vmem, ⟨19, _⟩ => ⟨S2x128x512, .f32⟩
  | .local _ .vmem, ⟨20, _⟩ => ⟨S512x2048, .f32⟩
  | .local _ .vmem, ⟨21, _⟩ => ⟨S2x128x512, .f32⟩
  | .local _ .vmem, ⟨22, _⟩ => ⟨S2x128x512, .f32⟩
  | .local _ .vmem, ⟨23, _⟩ => ⟨S2x128x512, .f32⟩
  | .local _ .vmem, ⟨24, _⟩ => ⟨S2x128x512, .f32⟩
  | .local _ .vmem, ⟨25, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_call5_v0 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_call6_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_call7_v0 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_call8_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v26_2 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_10 (i : grid0.Coords) : Fin 3 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_13 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnSRefIdeal.lean ====
abbrev S512x2048 : Shape := ⟨2, ![512, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S128x2x11008 : Shape := ⟨3, ![128, 2, 11008]⟩
abbrev S4x128x2048 : Shape := ⟨3, ![4, 128, 2048]⟩
abbrev S128x4x2048 : Shape := ⟨3, ![128, 4, 2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x4x11008 : Shape := ⟨3, ![128, 4, 11008]⟩
abbrev S128x6x11008 : Shape := ⟨3, ![128, 6, 11008]⟩
abbrev S1x11008 : Shape := ⟨2, ![1, 11008]⟩
abbrev S1x1x11008 : Shape := ⟨3, ![1, 1, 11008]⟩
abbrev S128x4x5504 : Shape := ⟨3, ![128, 4, 5504]⟩
abbrev S2x128x11008 : Shape := ⟨3, ![2, 128, 11008]⟩
abbrev S2x128x5504 : Shape := ⟨3, ![2, 128, 5504]⟩
abbrev S2x128x5632 : Shape := ⟨3, ![2, 128, 5632]⟩

abbrev nBuf : Space → Nat
  | .hbm => 76
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S128x2x11008, .f32⟩
  | .hbm, ⟨7, _⟩ => ⟨S4x128x2048, .f32⟩
  | .hbm, ⟨8, _⟩ => ⟨S128x4x2048, .f32⟩
  | .hbm, ⟨9, _⟩ => ⟨S128x4x2048, .f32⟩
  | .hbm, ⟨10, _⟩ => ⟨S_, .f32⟩
  | .hbm, ⟨11, _⟩ => ⟨S128x4, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1, .f32⟩
  | .hbm, ⟨20, _⟩ => ⟨S128x4x2048, .f32⟩
  | .hbm, ⟨21, _⟩ => ⟨S128x4x2048, .f32⟩
  | .hbm, ⟨22, _⟩ => ⟨S1x1x2048, .f32⟩
  | .hbm, ⟨23, _⟩ => ⟨S128x4x2048, .f32⟩
  | .hbm, ⟨24, _⟩ => ⟨S128x4x2048, .f32⟩
  | .hbm, ⟨25, _⟩ => ⟨S128x4x11008, .f32⟩
  | .hbm, ⟨26, _⟩ => ⟨S128x6x11008, .f32⟩
  | .hbm, ⟨27, _⟩ => ⟨S1x11008, .f32⟩
  | .hbm, ⟨28, _⟩ => ⟨S11008, .f32⟩
  | .hbm, ⟨29, _⟩ => ⟨S128x4x11008, .f32⟩
  | .hbm, ⟨30, _⟩ => ⟨S1x1x11008, .f32⟩
  | .hbm, ⟨31, _⟩ => ⟨S128x4x11008, .f32⟩
  | .hbm, ⟨32, _⟩ => ⟨S128x4x11008, .f32⟩
  | .hbm, ⟨33, _⟩ => ⟨S1x1x11008, .f32⟩
  | .hbm, ⟨34, _⟩ => ⟨S128x4x11008, .f32⟩
  | .hbm, ⟨35, _⟩ => ⟨S128x4x11008, .f32⟩
  | .hbm, ⟨36, _⟩ => ⟨S1x11008, .f32⟩
  | .hbm, ⟨37, _⟩ => ⟨S11008, .f32⟩
  | .hbm, ⟨38, _⟩ => ⟨S128x4x11008, .f32⟩
  | .hbm, ⟨39, _⟩ => ⟨S1x1x11008, .f32⟩
  | .hbm, ⟨40, _⟩ => ⟨S128x4x11008, .f32⟩
  | .hbm, ⟨41, _⟩ => ⟨S128x4x11008, .f32⟩
  | .hbm, ⟨42, _⟩ => ⟨S128x4x11008, .f32⟩
  | .hbm, ⟨43, _⟩ => ⟨S1x11008, .f32⟩
  | .hbm, ⟨44, _⟩ => ⟨S11008, .f32⟩
  | .hbm, ⟨45, _⟩ => ⟨S128x4x11008, .f32⟩
  | .hbm, ⟨46, _⟩ => ⟨S1x1x11008, .f32⟩
  | .hbm, ⟨47, _⟩ => ⟨S128x4x11008, .f32⟩
  | .hbm, ⟨48, _⟩ => ⟨S128x4x11008, .f32⟩
  | .hbm, ⟨49, _⟩ => ⟨S128x4x11008, .f32⟩
  | .hbm, ⟨50, _⟩ => ⟨S128x4x5504, .f32⟩
  | .hbm, ⟨51, _⟩ => ⟨S128x4x5504, .f32⟩
  | .hbm, ⟨52, _⟩ => ⟨S128x4x5504, .f32⟩
  | .hbm, ⟨53, _⟩ => ⟨S128x4x5504, .f32⟩
  | .hbm, ⟨54, _⟩ => ⟨S_, .f32⟩
  | .hbm, ⟨55, _⟩ => ⟨S128x4x5504, .f32⟩
  | .hbm, ⟨56, _⟩ => ⟨S128x4x5504, .f32⟩
  | .hbm, ⟨57, _⟩ => ⟨S_, .f32⟩
  | .hbm, ⟨58, _⟩ => ⟨S128x4x5504, .f32⟩
  | .hbm, ⟨59, _⟩ => ⟨S128x4x5504, .f32⟩
  | .hbm, ⟨60, _⟩ => ⟨S128x4x5504, .f32⟩
  | .hbm, ⟨61, _⟩ => ⟨S128x4x5504, .f32⟩
  | .hbm, ⟨62, _⟩ => ⟨S128x4x2048, .f32⟩
  | .hbm, ⟨63, _⟩ => ⟨S128x2x11008, .f32⟩
  | .hbm, ⟨64, _⟩ => ⟨S2x128x11008, .f32⟩
  | .hbm, ⟨65, _⟩ => ⟨S128x4x2048, .f32⟩
  | .hbm, ⟨66, _⟩ => ⟨S4x128x2048, .f32⟩
  | .hbm, ⟨67, _⟩ => ⟨S512x2048, .f32⟩
  | .hbm, ⟨68, _⟩ => ⟨S2x128x5504, .f32⟩
  | .hbm, ⟨69, _⟩ => ⟨S_, .i32⟩
  | .hbm, ⟨70, _⟩ => ⟨S_, .f32⟩
  | .hbm, ⟨71, _⟩ => ⟨S2x128x5632, .f32⟩
  | .hbm, ⟨72, _⟩ => ⟨S2x128x5504, .f32⟩
  | .hbm, ⟨73, _⟩ => ⟨S_, .i32⟩
  | .hbm, ⟨74, _⟩ => ⟨S_, .f32⟩
  | .hbm, ⟨75, _⟩ => ⟨S2x128x5632, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_call1_v0 : Ref sig .tc := ⟨.hbm, 70, rfl⟩
abbrev main_v51 : Ref sig .tc := ⟨.hbm, 71, rfl⟩
abbrev main_v52 : Ref sig .tc := ⟨.hbm, 72, rfl⟩
abbrev main_c_2 : Ref sig .tc := ⟨.hbm, 73, rfl⟩
abbrev main_call2_v0 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Merge.lean ====
abbrev S512x1024 : Shape := ⟨2, ![512, 1024]⟩
abbrev S8x128x128 : Shape := ⟨3, ![8, 128, 128]⟩
abbrev S8x128 : Shape := ⟨2, ![8, 128]⟩
abbrev S1024 : Shape := ⟨1, ![1024]⟩
abbrev S8x4x4 : Shape := ⟨3, ![8, 4, 4]⟩
abbrev S4x4x8 : Shape := ⟨3, ![4, 4, 8]⟩
abbrev S4x4x8x128 : Shape := ⟨4, ![4, 4, 8, 128]⟩
abbrev S4x4x1024 : Shape := ⟨3, ![4, 4, 1024]⟩
abbrev S16x1024 : Shape := ⟨2, ![16, 1024]⟩
abbrev S8x4 : Shape := ⟨2, ![8, 4]⟩
abbrev S4x8 : Shape := ⟨2, ![4, 8]⟩
abbrev S4x8x128 : Shape := ⟨3, ![4, 8, 128]⟩
abbrev S4x1024 : Shape := ⟨2, ![4, 1024]⟩
abbrev S1x1024 : Shape := ⟨2, ![1, 1024]⟩
abbrev S512x2048 : Shape := ⟨2, ![512, 2048]⟩
abbrev S512 : Shape := ⟨1, ![512]⟩
abbrev S512x1 : Shape := ⟨2, ![512, 1]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S8x4x4, .f32⟩
  | .hbm, ⟨8, _⟩ => ⟨S4x4x8, .f32⟩
  | .hbm, ⟨9, _⟩ => ⟨S4x4x8x128, .f32⟩
  | .hbm, ⟨10, _⟩ => ⟨S4x4x1024, .f32⟩
  | .hbm, ⟨11, _⟩ => ⟨S16x1024, .f32⟩
  | .hbm, ⟨12, _⟩ => ⟨S8x4, .f32⟩
  | .hbm, ⟨13, _⟩ => ⟨S4x8, .f32⟩
  | .hbm, ⟨14, _⟩ => ⟨S4x8x128, .f32⟩
  | .hbm, ⟨15, _⟩ => ⟨S4x1024, .f32⟩
  | .hbm, ⟨16, _⟩ => ⟨S1x1024, .f32⟩
  | .hbm, ⟨17, _⟩ => ⟨S1x1024, .f32⟩
  | .hbm, ⟨18, _⟩ => ⟨S512x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S16x1024, .f32⟩
  | .local _ .vmem, ⟨4, _⟩ => ⟨S4x1024, .f32⟩
  | .local _ .vmem, ⟨5, _⟩ => ⟨S1x1024, .f32⟩
  | .local _ .vmem, ⟨6, _⟩ => ⟨S1x1024, .f32⟩
  | .local _ .vmem, ⟨7, _⟩ => ⟨S512x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== MergeRefIdeal.lean ====
abbrev S512x1024 : Shape := ⟨2, ![512, 1024]⟩
abbrev S8x128x128 : Shape := ⟨3, ![8, 128, 128]⟩
abbrev S8x128 : Shape := ⟨2, ![8, 128]⟩
abbrev S1024 : Shape := ⟨1, ![1024]⟩
abbrev S128x128 : Shape := ⟨2, ![128, 128]⟩
abbrev S_ : Shape := ⟨0, ![]⟩
abbrev S8x4x4 : Shape := ⟨3, ![8, 4, 4]⟩
abbrev S4x128x1024 : Shape := ⟨3, ![4, 128, 1024]⟩
abbrev S128x4x1024 : Shape := ⟨3, ![128, 4, 1024]⟩
abbrev S128x4x8x128 : Shape := ⟨4, ![128, 4, 8, 128]⟩
abbrev S8x128x128x4 : Shape := ⟨4, ![8, 128, 128, 4]⟩
abbrev S8x4 : Shape := ⟨2, ![8, 4]⟩
abbrev S4x8 : Shape := ⟨2, ![4, 8]⟩
abbrev S4x8x1 : Shape := ⟨3, ![4, 8, 1]⟩
abbrev S1x4x8x1 : Shape := ⟨4, ![1, 4, 8, 1]⟩
abbrev S128x4 : Shape := ⟨2, ![128, 4]⟩
abbrev S128x4x1 : Shape := ⟨3, ![128, 4, 1]⟩
abbrev S1x1x1024 : Shape := ⟨3, ![1, 1, 1024]⟩
abbrev S128x4x2048 : Shape := ⟨3, ![128, 4, 2048]⟩
abbrev S4x128x2048 : Shape := ⟨3, ![4, 128, 2048]⟩
abbrev S512x2048 : Shape := ⟨2, ![512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S8x128x128, .i1⟩
  | .hbm, ⟨14, _⟩ => ⟨S_, .f32⟩
  | .hbm, ⟨15, _⟩ => ⟨S8x128x128, .f32⟩
  | .hbm, ⟨16, _⟩ => ⟨S8x128x128, .f32⟩
  | .hbm, ⟨17, _⟩ => ⟨S8x4x4, .f32⟩
  | .hbm, ⟨18, _⟩ => ⟨S4x128x1024, .f32⟩
  | .hbm, ⟨19, _⟩ => ⟨S128x4x1024, .f32⟩
  | .hbm, ⟨20, _⟩ => ⟨S128x4x8x128, .f32⟩
  | .hbm, ⟨21, _⟩ => ⟨S8x128x128x4, .f32⟩
  | .hbm, ⟨22, _⟩ => ⟨S128x4x8x128, .f32⟩
  | .hbm, ⟨23, _⟩ => ⟨S8x4, .f32⟩
  | .hbm, ⟨24, _⟩ => ⟨S4x8, .f32⟩
  | .hbm, ⟨25, _⟩ => ⟨S4x8x1, .f32⟩
  | .hbm, ⟨26, _⟩ => ⟨S1x4x8x1, .f32⟩
  | .hbm, ⟨27, _⟩ => ⟨S128x4x8x128, .f32⟩
  | .hbm, ⟨28, _⟩ => ⟨S128x4x8x128, .f32⟩
  | .hbm, ⟨29, _⟩ => ⟨S4x128x1024, .f32⟩
  | .hbm, ⟨30, _⟩ => ⟨S128x4x1024, .f32⟩
  | .hbm, ⟨31, _⟩ => ⟨S128x4x8x128, .f32⟩
  | .hbm, ⟨32, _⟩ => ⟨S128x4x8x128, .f32⟩
  | .hbm, ⟨33, _⟩ => ⟨S128x4x1024, .f32⟩
  | .hbm, ⟨34, _⟩ => ⟨S4x128x1024, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S128x4x1, .f32⟩
  | .hbm, ⟨47, _⟩ => ⟨S128x4x1024, .f32⟩
  | .hbm, ⟨48, _⟩ => ⟨S128x4x1024, .f32⟩
  | .hbm, ⟨49, _⟩ => ⟨S1x1x1024, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S_, .f32⟩
  | .hbm, ⟨54, _⟩ => ⟨S128x4, .f32⟩
  | .hbm, ⟨55, _⟩ => ⟨S128x4x1, .f32⟩
  | .hbm, ⟨56, _⟩ => ⟨S_, .f32⟩
  | .hbm, ⟨57, _⟩ => ⟨S128x4x1, .f32⟩
  | .hbm, ⟨58, _⟩ => ⟨S128x4x1, .f32⟩
  | .hbm, ⟨59, _⟩ => ⟨S_, .f32⟩
  | .hbm, ⟨60, _⟩ => ⟨S128x4x1, .f32⟩
  | .hbm, ⟨61, _⟩ => ⟨S128x4x1, .f32⟩
  | .hbm, ⟨62, _⟩ => ⟨S128x4x1, .f32⟩
  | .hbm, ⟨63, _⟩ => ⟨S128x4x1024, .f32⟩
  | .hbm, ⟨64, _⟩ => ⟨S128x4x1024, .f32⟩
  | .hbm, ⟨65, _⟩ => ⟨S1x1x1024, .f32⟩
  | .hbm, ⟨66, _⟩ => ⟨S128x4x1024, .f32⟩
  | .hbm, ⟨67, _⟩ => ⟨S128x4x1024, .f32⟩
  | .hbm, ⟨68, _⟩ => ⟨S128x4x2048, .f32⟩
  | .hbm, ⟨69, _⟩ => ⟨S4x128x2048, .f32⟩
  | .hbm, ⟨70, _⟩ => ⟨S512x2048, .f32⟩
  | .hbm, ⟨71, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.FfnBody.lean ====
module

public import proofs.«01_k».proof.Proof.Gen.FfnIdeal.Value
public import Idealize.ShloMosaic.Lib.Pipeline.ValueKit
public import Idealize.ShloMosaic.Lib.Pipeline.ReadBack
public import Idealize.ShloMosaic.Lib.Pointwise

/-! What one grid point of the feed-forward call leaves in its outputs and in the normalized rows it carries, as
    functions of the point's blocks: the values are read at an index, over the extended reals. -/

@[expose] public section

set_option maxRecDepth 16384

noncomputable section

namespace Cert.FfnIdeal.Value

open Cert.FfnIdeal Cert.FfnIdeal.Gen Idealize.ShloMosaic Idealize.ShloMosaic.TcCoe Idealize.SL.Sem

variable (m : (ℓ : Loc nD τ sig) → Buf (Elt Ideal) ℓ)

/-- A load of the whole buffer after any stores reads what the stores leave. -/
theorem readCov_whole {Val : EltTy → Type} [∀ e, Nonempty (Val e)] {sig : RefSig} {κ : Kind} {sp : Space} {s : Shape} {e : EltTy}
    (v : View sig κ sp s e) {off : Fin s.rank → ℕ} (inb : ∀ a, off a + s.size a ≤ s.size a) (L : List (View.Piece Val s e))
    (h : ∀ a, off a = 0) : v.readCov L (Rect.unit off (no_index s.size) inb).toLoadRect = View.canon L := by
  rw [View.readCov_eq_canon']
  funext j
  congr 1
  funext a
  apply Fin.ext
  show off a + 1 * (j a).val = (j a).val
  rw [h a]; omega

/-- The normalized rows the call carries, after point `t`: sixteen rows from before the tile, then the tile's own. -/
def rows (c : Dev nD) (t : Fin cfg0.N) : Vec Ideal S528x2048 .bf16 := (outsAt0 m c t.val t.isLt).2.2.2

/-- One half of the up-projection, the tile's rows and the sixteen before them. -/
def up (S : Vec Ideal S528x2048 .bf16) (W : Vec Ideal S2048x512 .bf16) (R : Fin 528) (q : Fin 512) : EReal :=
  ∑ k : Fin 2048, S (ix2 R k) * W (ix2 k q)

/-- One half of the convolved rows: the bias and the three taps, oldest row first. -/
def conv (S : Vec Ideal S528x2048 .bf16) (W : Vec Ideal S2048x512 .bf16) (w : Vec Ideal S3x512 .f32) (b : Vec Ideal S1x512 .f32)
    (r q : Fin 512) : EReal :=
  b (ix2 0 q) + w (ix2 0 q) * up S W ⟨14 + r.val, by omega⟩ q + w (ix2 1 q) * up S W ⟨15 + r.val, by omega⟩ q
    + w (ix2 2 q) * up S W ⟨16 + r.val, by omega⟩ q

/-- The point's block of the gated activation. -/
def gated (c : Dev nD) (t : Fin cfg0.N) (S : Vec Ideal S528x2048 .bf16) (r q : Fin 512) : EReal :=
  conv S (iblk m c 4 t) (iblk m c 6 t) (iblk m c 8 t) r q
    * Ideal.logistic (conv S (iblk m c 4 t) (iblk m c 6 t) (iblk m c 8 t) r q)
    * conv S (iblk m c 3 t) (iblk m c 5 t) (iblk m c 7 t) r q

/-- What the point adds to the result's block. -/
def part (c : Dev nD) (t : Fin cfg0.N) (S : Vec Ideal S528x2048 .bf16) (r : Fin 512) (l : Fin 2048) : EReal :=
  ∑ q : Fin 512, gated m c t S r q * (iblk m c 9 t : Vec Ideal S512x2048 .bf16) (ix2 q l)

theorem rows_B (c : Dev nD) (t : Fin cfg0.N) (h : ¬t.val % 11 = 0) :
    rows m c t = (outsAt0 m c (t.val - 1) (Nat.lt_of_le_of_lt (Nat.sub_le _ _) t.isLt)).2.2.2 := by
  rw [rows, outsAt0_B m c t h]; rfl

theorem rows_A (c : Dev nD) (t : Fin cfg0.N) (h : t.val % 11 = 0) :
    rows m c t = View.canon [⟨Rect.unit ![0, 0] ![16, 2048] inb_S528x2048_S16x2048_0_0,
          k0_pay7 (k0_pay4 (BitVec.ofNat 32 ↑(grid0.coords t 0))) (iblk m c 1 t) (k0_pay5 (iblk m c 2 t)) (k0_pay6 (iblk m c 1 t))⟩,
        ⟨Rect.unit ![16, 0] ![512, 2048] inb_S528x2048_S512x2048_16_0, k0_pay3 (iblk m c 0 t) (iblk m c 2 t)⟩] := by
  rw [rows, outsAt0_A m c t h]; frame_out

theorem y_B (c : Dev nD) (t : Fin cfg0.N) (h : ¬t.val % 11 = 0) (r : Fin 512) (l : Fin 2048) :
    (outsAt0 m c t.val t.isLt).1 (ix2 r l)
      = (outsAt0 m c (t.val - 1) (Nat.lt_of_le_of_lt (Nat.sub_le _ _) t.isLt)).1 (ix2 r l) + part m c t (rows m c t) r l := by
  rw [rows_B m c t h, outsAt0_B m c t h]; frame_open
  simp (disch := decide) only [↓ View.readCov_skip, ↓ View.readCov_cons_toLoadRect, ↓ View.readCov_fill]
  frame_out
  simp only [read_unread_whole]
  pointwise [k0_pay11, k0_pay10, k0_pay9, k0_pay8]
  unfold part gated conv up
  rfl

theorem y_A (c : Dev nD) (t : Fin cfg0.N) (h : t.val % 11 = 0) (r : Fin 512) (l : Fin 2048) :
    (outsAt0 m c t.val t.isLt).1 (ix2 r l) = (show EReal from iblk m c 0 t (ix2 r l)) + part m c t (rows m c t) r l := by
  rw [outsAt0_A m c t h]; frame_open
  simp (disch := decide) only [↓ View.readCov_skip, ↓ View.readCov_cons_toLoadRect, ↓ View.readCov_fill]
  frame_out
  simp (disch := decide) only [readCov_whole, ← rows_A m c t h]
  pointwise [k0_pay11, k0_pay10, k0_pay9, k0_pay8]
  unfold part gated conv up
  rfl

theorem sa (c : Dev nD) (t : Fin cfg0.N) (r : Fin 2) (q : Fin 512) :
    (outsAt0 m c t.val t.isLt).2.1 (ix3 0 r q) = up (rows m c t) (iblk m c 3 t) ⟨526 + r.val, by omega⟩ q := by
  by_cases h : t.val % 11 = 0
  · rw [rows_A m c t h, outsAt0_A m c t h]; frame_open
    simp (disch := decide) only [↓ View.readCov_skip, ↓ View.readCov_cons_toLoadRect, ↓ View.readCov_fill]
    frame_out
    simp (disch := decide) only [readCov_whole, ← rows_A m c t h]
    pointwise [k0_pay1, k0_pay8]
    unfold up
    rfl
  · rw [rows_B m c t h, outsAt0_B m c t h]; frame_open
    simp (disch := decide) only [↓ View.readCov_skip, ↓ View.readCov_cons_toLoadRect, ↓ View.readCov_fill]
    frame_out
    simp only [read_unread_whole]
    pointwise [k0_pay1, k0_pay8]
    unfold up
    rfl

theorem sg (c : Dev nD) (t : Fin cfg0.N) (r : Fin 2) (q : Fin 512) :
    (outsAt0 m c t.val t.isLt).2.2.1 (ix3 0 r q) = up (rows m c t) (iblk m c 4 t) ⟨526 + r.val, by omega⟩ q := by
  by_cases h : t.val % 11 = 0
  · rw [rows_A m c t h, outsAt0_A m c t h]; frame_open
    simp (disch := decide) only [↓ View.readCov_skip, ↓ View.readCov_cons_toLoadRect, ↓ View.readCov_fill]
    frame_out
    simp (disch := decide) only [readCov_whole, ← rows_A m c t h]
    pointwise [k0_pay2, k0_pay9]
    unfold up
    rfl
  · rw [rows_B m c t h, outsAt0_B m c t h]; frame_open
    simp (disch := decide) only [↓ View.readCov_skip, ↓ View.readCov_cons_toLoadRect, ↓ View.readCov_fill]
    frame_out
    simp only [read_unread_whole]
    pointwise [k0_pay2, k0_pay9]
    unfold up
    rfl

end Cert.FfnIdeal.Value
-- ==== Proof.FfnSpec.lean ====
module

public import Idealize.ShloMosaic.Lib.Pointwise
public import Idealize.ShloMosaic.Lib.Pipeline.ValueKit.Acc

/-! The feed-forward layer over the extended reals, written index by index: rows are numbered through all eight
    sequences, and every table reads zero outside its array. -/

@[expose] public section

noncomputable section

namespace Cert.FfnSpec

open Idealize.ShloMosaic

/-- A matrix read at any two numbers: zero outside. -/
def tab {A B : ℕ} (f : Fin A → Fin B → EReal) (a b : ℕ) : EReal := if h : a < A ∧ b < B then f ⟨a, h.1⟩ ⟨b, h.2⟩ else 0

theorem tab_at {A B : ℕ} (f : Fin A → Fin B → EReal) (a : Fin A) (b : Fin B) : tab f a.val b.val = f a b := by
  simp [tab]

theorem tab_in {A B : ℕ} (f : Fin A → Fin B → EReal) (a b : ℕ) (ha : a < A) (hb : b < B) : tab f a b = f ⟨a, ha⟩ ⟨b, hb⟩ := by
  simp [tab, ha, hb]

theorem tab_out {A B : ℕ} (f : Fin A → Fin B → EReal) (a b : ℕ) (hb : B ≤ b) : tab f a b = 0 := by
  simp [tab, Nat.not_lt.2 hb]

/-- The layer's arguments as tables: the rows, the norm's scale, the two halves of the up-projection and of the
    convolution's weights and bias, and the down-projection. -/
structure Data where
  x : ℕ → ℕ → EReal
  g : ℕ → ℕ → EReal
  wl : ℕ → ℕ → EReal
  wh : ℕ → ℕ → EReal
  cl : ℕ → ℕ → EReal
  ch : ℕ → ℕ → EReal
  bl : ℕ → ℕ → EReal
  bh : ℕ → ℕ → EReal
  d : ℕ → ℕ → EReal

/-- The tables of the six argument arrays. -/
def Data.of (x : Fin 16384 → Fin 2048 → EReal) (g : Fin 2048 → EReal) (u : Fin 2048 → Fin 11008 → EReal) (w : Fin 3 → Fin 11008 → EReal)
    (b : Fin 11008 → EReal) (d : Fin 5504 → Fin 2048 → EReal) : Data where
  x := tab x
  g := tab fun (_ : Fin 1) k => g k
  wl := tab fun k (p : Fin 5504) => u k ⟨p.val, by omega⟩
  wh := tab fun k (p : Fin 5504) => u k ⟨5504 + p.val, by omega⟩
  cl := tab fun a (p : Fin 5504) => w a ⟨p.val, by omega⟩
  ch := tab fun a (p : Fin 5504) => w a ⟨5504 + p.val, by omega⟩
  bl := tab fun (_ : Fin 1) (p : Fin 5504) => b ⟨p.val, by omega⟩
  bh := tab fun (_ : Fin 1) (p : Fin 5504) => b ⟨5504 + p.val, by omega⟩
  d := tab d

/-- The tables of a decoding step, whose 512 rows stand by position, then by sequence. -/
def Data.ofS (x : Fin 512 → Fin 2048 → EReal) (g : Fin 2048 → EReal) (u : Fin 2048 → Fin 11008 → EReal) (w : Fin 3 → Fin 11008 → EReal)
    (b : Fin 11008 → EReal) (d : Fin 5504 → Fin 2048 → EReal) : Data where
  x := tab x
  g := tab fun (_ : Fin 1) k => g k
  wl := tab fun k (p : Fin 5504) => u k ⟨p.val, by omega⟩
  wh := tab fun k (p : Fin 5504) => u k ⟨5504 + p.val, by omega⟩
  cl := tab fun a (p : Fin 5504) => w a ⟨p.val, by omega⟩
  ch := tab fun a (p : Fin 5504) => w a ⟨5504 + p.val, by omega⟩
  bl := tab fun (_ : Fin 1) (p : Fin 5504) => b ⟨p.val, by omega⟩
  bh := tab fun (_ : Fin 1) (p : Fin 5504) => b ⟨5504 + p.val, by omega⟩
  d := tab d

variable (D : Data)

/-- A row of the root-mean-square norm. -/
def nrm (r k : ℕ) : EReal :=
  D.x r k * Ideal.rsqrt (Ideal.div (∑ j : Fin 2048, D.x r j.val * D.x r j.val) (Ideal.ofBits FTy.f32 1157627904#32)
    + Ideal.ofBits FTy.f32 897988541#32) * D.g 0 k

/-- The up-projection by the half `w`. -/
def up (w : ℕ → ℕ → EReal) (r p : ℕ) : EReal := ∑ k : Fin 2048, nrm D r k.val * w k.val p

/-- The row that tap `a` of the causal convolution reads: rows before the sequence's first read zero. -/
def tap (w : ℕ → ℕ → EReal) (r a p : ℕ) : EReal := if r % 2048 + a < 2 then 0 else up D w (r + a - 2) p

/-- The causal convolution of three taps. -/
def conv (w cw b : ℕ → ℕ → EReal) (r p : ℕ) : EReal :=
  b 0 p + cw 0 p * tap D w r 0 p + cw 1 p * tap D w r 1 p + cw 2 p * tap D w r 2 p

/-- The gated activation. -/
def act (r p : ℕ) : EReal :=
  conv D D.wh D.ch D.bh r p * Ideal.logistic (conv D D.wh D.ch D.bh r p) * conv D D.wl D.cl D.bl r p

/-- The layer's result. -/
def out (r l : ℕ) : EReal := D.x r l + ∑ p : Fin 5504, act D r p.val * D.d p.val l

/-- What tap `a` of a decoding step's convolution reads: 128 rows to a position, the state's two positions first. -/
def tapS (w s : ℕ → ℕ → EReal) (r a p : ℕ) : EReal := if r + 128 * a < 256 then s (r + 128 * a) p else up D w (r + 128 * a - 256) p

/-- A decoding step's convolution of three taps. -/
def convS (w s cw b : ℕ → ℕ → EReal) (r p : ℕ) : EReal :=
  b 0 p + cw 0 p * tapS D w s r 0 p + cw 1 p * tapS D w s r 1 p + cw 2 p * tapS D w s r 2 p

/-- A decoding step's gated activation, on the state's two halves. -/
def actS (sl sh : ℕ → ℕ → EReal) (r p : ℕ) : EReal :=
  convS D D.wh sh D.ch D.bh r p * Ideal.logistic (convS D D.wh sh D.ch D.bh r p) * convS D D.wl sl D.cl D.bl r p

/-- A decoding step's result. -/
def outS (sl sh : ℕ → ℕ → EReal) (r l : ℕ) : EReal := D.x r l + ∑ p : Fin 5504, actS D sl sh r p.val * D.d p.val l

/-- The columns of the padded width beyond the down-projection's rows add nothing. -/
theorem sum_pad (f g : ℕ → EReal) (hg : ∀ p, 5504 ≤ p → g p = 0) :
    (∑ s ∈ Finset.range 11, ∑ q : Fin 512, f (s * 512 + q.val) * g (s * 512 + q.val)) = ∑ p : Fin 5504, f p.val * g p.val := by
  have h1 : ∀ s, (∑ q : Fin 512, f (s * 512 + q.val) * g (s * 512 + q.val)) = ∑ q ∈ Finset.range 512, f (s * 512 + q) * g (s * 512 + q) :=
    fun s => Fin.sum_univ_eq_sum_range (fun q => f (s * 512 + q) * g (s * 512 + q)) 512
  simp only [h1]
  rw [← Finset.sum_range_mul_split 11 512 fun p => f p * g p, Fin.sum_univ_eq_sum_range (fun p => f p * g p) 5504]
  symm
  apply Finset.sum_subset
  · intro p hp; simp only [Finset.mem_range] at hp ⊢; omega
  · intro p _ hp
    simp only [Finset.mem_range] at hp
    rw [hg p (by omega), mul_zero]

end Cert.FfnSpec
-- ==== Proof.FfnHost.lean ====
module

public import proofs.«01_k».proof.Proof.FfnBody
public import proofs.«01_k».proof.Proof.FfnSpec
public import Idealize.ShloMosaic.Lib.StableHlo.ReadAt

/-! The arrays the feed-forward call reads: the padded halves of the weights, read at an index, and the block of each
    that a grid point sees. -/

@[expose] public section

set_option maxRecDepth 100000

noncomputable section

namespace Cert.FfnIdeal.Value

open Cert.FfnIdeal Cert.FfnIdeal.Gen Idealize.ShloMosaic Idealize.ShloMosaic.TcCoe Idealize.SL.Sem Cert.FfnSpec

variable (m : (ℓ : Loc nD τ sig) → Buf (Elt Ideal) ℓ)

/-- The layer's tables at the launch's arguments. -/
def tabs (c : Dev nD) : Data := Data.of (fun r k => m (c, Proc.tc.devRef main_arg0) (ix2 r k)) (fun k => m (c, Proc.tc.devRef main_arg1) (ix1 k))
  (fun k p => m (c, Proc.tc.devRef main_arg2) (ix2 k p)) (fun a p => m (c, Proc.tc.devRef main_arg3) (ix2 a p))
  (fun p => m (c, Proc.tc.devRef main_arg4) (ix1 p)) (fun p l => m (c, Proc.tc.devRef main_arg5) (ix2 p l))

theorem zero_int : (FloatOps.sitofp (F := Ideal) FTy.f32 (0#32) : EReal) = 0 := by
  show (((0#32 : BitVec 32).toInt : ℝ) : EReal) = 0
  simp

theorem host_u (c : Dev nD) (k : Fin 2048) (p : Fin 11264) :
    V m c main_v5 (ix2 k p) = if p.val < 5632 then (tabs m c).wl k.val p.val else (tabs m c).wh k.val (p.val - 5632) := by
  generalize hR : (if p.val < 5632 then (tabs m c).wl k.val p.val else (tabs m c).wh k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  set_option maxRecDepth 100000 in
  after_reads_at
  rw [← hR]
  simp only [tabs, Data.of, tab, zero_int, k.isLt, true_and, Fin.eta]
  by_cases hp : p.val < 5632
  · rw [dif_pos hp, if_pos hp]
  · rw [dif_neg hp, if_neg hp]

theorem host_w (c : Dev nD) (k : Fin 3) (p : Fin 11264) :
    V m c main_v12 (ix2 k p) = if p.val < 5632 then (tabs m c).cl k.val p.val else (tabs m c).ch k.val (p.val - 5632) := by
  generalize hR : (if p.val < 5632 then (tabs m c).cl k.val p.val else (tabs m c).ch k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  rw [← hR]
  simp only [tabs, Data.of, tab, zero_int, k.isLt, true_and, Fin.eta]
  by_cases hp : p.val < 5632
  · simp only [hp, dif_pos, if_pos]
  · simp only [hp, dif_neg, if_neg, not_false_iff]

theorem host_b (c : Dev nD) (k : Fin 1) (p : Fin 11264) :
    V m c main_v18 (ix2 k p) = if p.val < 5632 then (tabs m c).bl k.val p.val else (tabs m c).bh k.val (p.val - 5632) := by
  generalize hR : (if p.val < 5632 then (tabs m c).bl k.val p.val else (tabs m c).bh k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  set_option maxRecDepth 100000 in
  after_reads_at
  rw [← hR]
  simp only [tabs, Data.of, tab, zero_int, k.isLt, true_and, Fin.eta]
  by_cases hp : p.val < 5632
  · rw [dif_pos hp, if_pos hp]
  · rw [dif_neg hp, if_neg hp]

theorem host_d (c : Dev nD) (p : Fin 5632) (l : Fin 2048) : V m c main_v7 (ix2 p l) = (tabs m c).d p.val l.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  simp only [tabs, Data.of, tab, zero_int, l.isLt, and_true]

theorem host_g (c : Dev nD) (k : Fin 2048) : V m c main_v19 (ix2 0 k) = (tabs m c).g 0 k.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  simp [tabs, Data.of, tab]

theorem host_x (c : Dev nD) (r : Fin 16384) (k : Fin 2048) : V m c main_arg0 (ix2 r k) = (tabs m c).x r.val k.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  simp [tabs, Data.of, tab]

theorem at0 : ∀ t : Fin cfg0.N, win0_0.index t = ![t.val / 11, 0] := (by decide +kernel : ∀ t : Fin grid0.N, _)
theorem at1 : ∀ t : Fin cfg0.N, win0_1.index t = ![t.val / 11 * 32 - 1, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, t.val % 11] := (by decide +kernel : ∀ t : Fin grid0.N, _)
theorem at4 : ∀ t : Fin cfg0.N, win0_4.index t = ![0, 11 + t.val % 11] := (by decide +kernel : ∀ t : Fin grid0.N, _)
theorem at5 : ∀ t : Fin cfg0.N, win0_5.index t = ![0, t.val % 11] := (by decide +kernel : ∀ t : Fin grid0.N, _)
theorem at6 : ∀ t : Fin cfg0.N, win0_6.index t = ![0, 11 + t.val % 11] := (by decide +kernel : ∀ t : Fin grid0.N, _)
theorem at7 : ∀ t : Fin cfg0.N, win0_7.index t = ![0, t.val % 11] := (by decide +kernel : ∀ t : Fin grid0.N, _)
theorem at8 : ∀ t : Fin cfg0.N, win0_8.index t = ![0, 11 + t.val % 11] := (by decide +kernel : ∀ t : Fin grid0.N, _)
theorem at9 : ∀ t : Fin cfg0.N, win0_9.index t = ![t.val % 11, 0] := (by decide +kernel : ∀ t : Fin grid0.N, _)
theorem co0 : ∀ t : Fin cfg0.N, (grid0.coords t 0).val = t.val / 11 := (by decide +kernel : ∀ t : Fin grid0.N, _)

theorem lt0 (t : Fin cfg0.N) : t.val < 352 := lt_of_lt_of_eq t.isLt N_0

theorem blk0 (c : Dev nD) (t : Fin cfg0.N) (r : Fin 512) (k : Fin 2048) :
    iblk m c 0 t (ix2 r k) = (tabs m c).x (t.val / 11 * 512 + r.val) k.val := by
  have h := lt0 t
  rw [← host_x m c ⟨t.val / 11 * 512 + r.val, by omega⟩ k]
  blk_ext [iblk, at0 t]

theorem blk1 (c : Dev nD) (t : Fin cfg0.N) (r : Fin 16) (k : Fin 2048) :
    iblk m c 1 t (ix2 r k) = (tabs m c).x ((t.val / 11 * 32 - 1) * 16 + r.val) k.val := by
  have h := lt0 t
  rw [← host_x m c ⟨(t.val / 11 * 32 - 1) * 16 + r.val, by omega⟩ k]
  blk_ext [iblk, at1 t]

theorem blk2 (c : Dev nD) (t : Fin cfg0.N) (k : Fin 2048) : iblk m c 2 t (ix2 0 k) = (tabs m c).g 0 k.val := by
  rw [← host_g m c k]
  blk_ext [iblk, at2 t]

theorem blk3 (c : Dev nD) (t : Fin cfg0.N) (k : Fin 2048) (q : Fin 512) :
    iblk m c 3 t (ix2 k q) = (tabs m c).wl k.val (t.val % 11 * 512 + q.val) := by
  have h := lt0 t
  have e := host_u m c k ⟨t.val % 11 * 512 + q.val, by omega⟩
  rw [if_pos (by show t.val % 11 * 512 + q.val < 5632; omega)] at e
  rw [← e]
  blk_ext [iblk, at3 t]

theorem blk4 (c : Dev nD) (t : Fin cfg0.N) (k : Fin 2048) (q : Fin 512) :
    iblk m c 4 t (ix2 k q) = (tabs m c).wh k.val (t.val % 11 * 512 + q.val) := by
  have h := lt0 t
  have e := host_u m c k ⟨(11 + t.val % 11) * 512 + q.val, by omega⟩
  rw [if_neg (by show ¬(11 + t.val % 11) * 512 + q.val < 5632; omega)] at e
  rw [show (11 + t.val % 11) * 512 + q.val - 5632 = t.val % 11 * 512 + q.val by omega] at e
  rw [← e]
  blk_ext [iblk, at4 t]

theorem blk5 (c : Dev nD) (t : Fin cfg0.N) (k : Fin 3) (q : Fin 512) :
    iblk m c 5 t (ix2 k q) = (tabs m c).cl k.val (t.val % 11 * 512 + q.val) := by
  have h := lt0 t
  have e := host_w m c k ⟨t.val % 11 * 512 + q.val, by omega⟩
  rw [if_pos (by show t.val % 11 * 512 + q.val < 5632; omega)] at e
  rw [← e]
  blk_ext [iblk, at5 t]

theorem blk6 (c : Dev nD) (t : Fin cfg0.N) (k : Fin 3) (q : Fin 512) :
    iblk m c 6 t (ix2 k q) = (tabs m c).ch k.val (t.val % 11 * 512 + q.val) := by
  have h := lt0 t
  have e := host_w m c k ⟨(11 + t.val % 11) * 512 + q.val, by omega⟩
  rw [if_neg (by show ¬(11 + t.val % 11) * 512 + q.val < 5632; omega)] at e
  rw [show (11 + t.val % 11) * 512 + q.val - 5632 = t.val % 11 * 512 + q.val by omega] at e
  rw [← e]
  blk_ext [iblk, at6 t]

theorem blk7 (c : Dev nD) (t : Fin cfg0.N) (q : Fin 512) : iblk m c 7 t (ix2 0 q) = (tabs m c).bl 0 (t.val % 11 * 512 + q.val) := by
  have h := lt0 t
  have e := host_b m c 0 ⟨t.val % 11 * 512 + q.val, by omega⟩
  rw [if_pos (by show t.val % 11 * 512 + q.val < 5632; omega)] at e
  refine Eq.trans ?_ e
  blk_ext [iblk, at7 t]

theorem blk8 (c : Dev nD) (t : Fin cfg0.N) (q : Fin 512) : iblk m c 8 t (ix2 0 q) = (tabs m c).bh 0 (t.val % 11 * 512 + q.val) := by
  have h := lt0 t
  have e := host_b m c 0 ⟨(11 + t.val % 11) * 512 + q.val, by omega⟩
  rw [if_neg (by show ¬(11 + t.val % 11) * 512 + q.val < 5632; omega)] at e
  rw [show (11 + t.val % 11) * 512 + q.val - 5632 = t.val % 11 * 512 + q.val by omega] at e
  refine Eq.trans ?_ e
  blk_ext [iblk, at8 t]

theorem blk9 (c : Dev nD) (t : Fin cfg0.N) (q : Fin 512) (l : Fin 2048) :
    iblk m c 9 t (ix2 q l) = (tabs m c).d (t.val % 11 * 512 + q.val) l.val := by
  have h := lt0 t
  rw [← host_d m c ⟨t.val % 11 * 512 + q.val, by omega⟩ l]
  blk_ext [iblk, at9 t]

end Cert.FfnIdeal.Value
-- ==== Proof.FfnPoint.lean ====
module

public import proofs.«01_k».proof.Proof.FfnHost

/-! The feed-forward call's outputs after every grid point, in terms of the layer's tables. -/

@[expose] public section

set_option maxRecDepth 16384

noncomputable section

namespace Cert.FfnIdeal.Value

open Cert.FfnIdeal Cert.FfnIdeal.Gen Idealize.ShloMosaic Idealize.ShloMosaic.TcCoe Idealize.SL.Sem Cert.FfnSpec

variable (m : (ℓ : Loc nD τ sig) → Buf (Elt Ideal) ℓ)

/-- The halo's factor: zero at the first tile of a sequence, one elsewhere. -/
theorem keep (i : ℕ) (hi : i < 32) : k0_pay4 (F := Ideal) (BitVec.ofNat 32 i) = if i % 4 = 0 then (0 : EReal) else 1 := by
  have h : ∀ i : Fin 32, Scalar.cmpi .eq (Scalar.select (Scalar.andi (Scalar.xori (Scalar.cmpi .slt (Scalar.remsi (BitVec.ofNat 32 i.val) 4#32) 0#32) (Scalar.cmpi .slt 4#32 0#32)) (Scalar.cmpi .ne (Scalar.remsi (BitVec.ofNat 32 i.val) 4#32) 0#32)) (Scalar.addi (Scalar.remsi (BitVec.ofNat 32 i.val) 4#32) 4#32) (Scalar.remsi (BitVec.ofNat 32 i.val) 4#32)) 0#32 = BitVec.ofBool (decide (i.val % 4 = 0)) := by decide
  have h2 := h ⟨i, hi⟩
  show Scalar.select (Scalar.cmpi .eq (Scalar.select (Scalar.andi (Scalar.xori (Scalar.cmpi .slt (Scalar.remsi (BitVec.ofNat 32 i) 4#32) 0#32) (Scalar.cmpi .slt 4#32 0#32)) (Scalar.cmpi .ne (Scalar.remsi (BitVec.ofNat 32 i) 4#32) 0#32)) (Scalar.addi (Scalar.remsi (BitVec.ofNat 32 i) 4#32) 4#32) (Scalar.remsi (BitVec.ofNat 32 i) 4#32)) 0#32) (FloatOps.ofBits FTy.f32 0#32 : Ideal .f32) (FloatOps.ofBits FTy.f32 1065353216#32) = _
  rw [h2]
  by_cases hm : i % 4 = 0
  · simp [hm, Scalar.select, Ideal.ofBits_zero_f32]
  · simp [hm, Scalar.select, Ideal.ofBits_one_f32]

/-- The row of the layer that row `R` of the carried buffer holds during tile `i`: zero before a sequence's first row. -/
def carried (D : Data) (i R k : ℕ) : EReal := if R < 16 ∧ i % 4 = 0 then 0 else nrm D (512 * i + R - 16) k

theorem rows_first (c : Dev nD) (t : Fin cfg0.N) (h : t.val % 11 = 0) (R : Fin 528) (k : Fin 2048) :
    rows m c t (ix2 R k) = carried (tabs m c) (t.val / 11) R.val k.val := by
  have ht := lt0 t
  rw [rows_A m c t h]
  by_cases hR : R.val < 16
  · have hi : (ix2 R k : S528x2048.Idx) = (Rect.unit ![0, 0] ![16, 2048] inb_S528x2048_S16x2048_0_0).emb (ix2 (⟨R.val, hR⟩ : Fin 16) k) := by
      funext a; apply Fin.ext; revert a; refine Fin.forall_fin_two.2 ⟨?_, ?_⟩
      · show R.val = 0 + 1 * R.val; omega
      · show k.val = 0 + 1 * k.val; omega
    rw [hi, View.canon_cons_emb]
    pointwise [k0_pay7, k0_pay5, k0_pay6]
    rw [co0 t, keep _ (by omega)]
    simp only [blk1, blk2]
    unfold carried nrm
    by_cases h4 : t.val / 11 % 4 = 0
    · simp only [h4, hR, and_self, if_true, mul_zero]
    · have e : (t.val / 11 * 32 - 1) * 16 + R.val = 512 * (t.val / 11) + R.val - 16 := by omega
      simp only [h4, and_false, if_false, mul_one, e]
  · have hi : (ix2 R k : S528x2048.Idx) = (Rect.unit ![16, 0] ![512, 2048] inb_S528x2048_S512x2048_16_0).emb (ix2 (⟨R.val - 16, by omega⟩ : Fin 512) k) := by
      funext a; apply Fin.ext; revert a; refine Fin.forall_fin_two.2 ⟨?_, ?_⟩
      · show R.val = 16 + 1 * (R.val - 16); omega
      · show k.val = 0 + 1 * k.val; omega
    rw [View.canon_cons_of_not_mem, hi, View.canon_cons_emb]
    · pointwise [k0_pay3]
      simp only [blk0, blk2]
      unfold carried nrm
      have e : t.val / 11 * 512 + (R.val - 16) = 512 * (t.val / 11) + R.val - 16 := by omega
      simp only [hR, false_and, if_false, e]
    · rw [Rect.mem_set_unit]
      intro hc
      have := (hc 0).2
      simp at this
      omega

theorem rows_at (c : Dev nD) (n : ℕ) : ∀ (hn : n < cfg0.N) (R : Fin 528) (k : Fin 2048),
    rows m c ⟨n, hn⟩ (ix2 R k) = carried (tabs m c) (n / 11) R.val k.val := by
  induction n with
  | zero => intro hn R k; exact rows_first m c ⟨0, hn⟩ rfl R k
  | succ n ih =>
    intro hn R k
    by_cases h : (n + 1) % 11 = 0
    · exact rows_first m c ⟨n + 1, hn⟩ h R k
    · have e := ih (by omega) R k
      rw [rows_B m c ⟨n + 1, hn⟩ h, show (n + 1) / 11 = n / 11 by omega, ← e]
      rfl

/-- The up-projection of row `R` of the carried buffer. -/
theorem up_at (c : Dev nD) (t : Fin cfg0.N) (w : ℕ → ℕ → EReal) (W : Vec Ideal S2048x512 .bf16)
    (hW : ∀ k q, W (ix2 k q) = w k.val (t.val % 11 * 512 + q.val)) (R : Fin 528) (q : Fin 512) :
    Value.up (rows m c t) W R q = if R.val < 16 ∧ t.val / 11 % 4 = 0 then 0 else FfnSpec.up (tabs m c) w (512 * (t.val / 11) + R.val - 16) (t.val % 11 * 512 + q.val) := by
  unfold Value.up FfnSpec.up
  have e : ∀ k, rows m c t (ix2 R k) = carried (tabs m c) (t.val / 11) R.val k.val := fun k => rows_at m c t.val t.isLt R k
  simp only [e, hW, carried]
  by_cases hc : R.val < 16 ∧ t.val / 11 % 4 = 0
  · simp only [hc, and_self, if_true, zero_mul, Finset.sum_const_zero]
  · simp only [hc, if_false]

theorem tap_at (c : Dev nD) (t : Fin cfg0.N) (w : ℕ → ℕ → EReal) (W : Vec Ideal S2048x512 .bf16)
    (hW : ∀ k q, W (ix2 k q) = w k.val (t.val % 11 * 512 + q.val)) (r q : Fin 512) (a : ℕ) (ha : a < 3) (h : 14 + a + r.val < 528) :
    Value.up (rows m c t) W ⟨14 + a + r.val, h⟩ q = tap (tabs m c) w (512 * (t.val / 11) + r.val) a (t.val % 11 * 512 + q.val) := by
  rw [up_at m c t w W hW]
  unfold tap
  have hr := r.isLt
  have e : 512 * (t.val / 11) + (14 + a + r.val) - 16 = 512 * (t.val / 11) + r.val + a - 2 := by omega
  have f : (14 + a + r.val < 16 ∧ t.val / 11 % 4 = 0) ↔ (512 * (t.val / 11) + r.val) % 2048 + a < 2 := by
    generalize t.val / 11 = i
    constructor <;> intro hh <;> omega
  simp only [e, f]

theorem conv_at (c : Dev nD) (t : Fin cfg0.N) (w cw b : ℕ → ℕ → EReal) (W : Vec Ideal S2048x512 .bf16) (C : Vec Ideal S3x512 .f32) (B : Vec Ideal S1x512 .f32)
    (hW : ∀ k q, W (ix2 k q) = w k.val (t.val % 11 * 512 + q.val)) (hC : ∀ k q, C (ix2 k q) = cw k.val (t.val % 11 * 512 + q.val))
    (hB : ∀ q, B (ix2 0 q) = b 0 (t.val % 11 * 512 + q.val)) (r q : Fin 512) :
    Value.conv (rows m c t) W C B r q = FfnSpec.conv (tabs m c) w cw b (512 * (t.val / 11) + r.val) (t.val % 11 * 512 + q.val) := by
  unfold Value.conv FfnSpec.conv
  rw [hB, hC, hC, hC, ← tap_at m c t w W hW r q 0 (by omega) (by omega), ← tap_at m c t w W hW r q 1 (by omega) (by omega),
    ← tap_at m c t w W hW r q 2 (by omega) (by omega)]
  rfl

theorem part_at (c : Dev nD) (t : Fin cfg0.N) (r : Fin 512) (l : Fin 2048) :
    part m c t (rows m c t) r l = ∑ q : Fin 512, act (tabs m c) (512 * (t.val / 11) + r.val) (t.val % 11 * 512 + q.val)
      * (tabs m c).d (t.val % 11 * 512 + q.val) l.val := by
  unfold part gated act
  refine Finset.sum_congr rfl fun q _ => ?_
  rw [conv_at m c t _ _ _ _ _ _ (blk4 m c t) (blk6 m c t) (blk8 m c t), conv_at m c t _ _ _ _ _ _ (blk3 m c t) (blk5 m c t) (blk7 m c t), blk9]

/-- The result's block after a point: the row's residual and the activation's columns so far, projected down. -/
theorem y_at (c : Dev nD) (n : ℕ) : ∀ (hn : n < cfg0.N) (r : Fin 512) (l : Fin 2048),
    (outsAt0 m c n hn).1 (ix2 r l) = (tabs m c).x (512 * (n / 11) + r.val) l.val
      + ∑ s ∈ Finset.range (n % 11 + 1), ∑ q : Fin 512, act (tabs m c) (512 * (n / 11) + r.val) (s * 512 + q.val) * (tabs m c).d (s * 512 + q.val) l.val := by
  have first : ∀ (t : Fin cfg0.N) (h : t.val % 11 = 0) (r : Fin 512) (l : Fin 2048), (outsAt0 m c t.val t.isLt).1 (ix2 r l)
      = (tabs m c).x (512 * (t.val / 11) + r.val) l.val
      + ∑ s ∈ Finset.range (t.val % 11 + 1), ∑ q : Fin 512, act (tabs m c) (512 * (t.val / 11) + r.val) (s * 512 + q.val) * (tabs m c).d (s * 512 + q.val) l.val := by
    intro t h r l
    rw [y_A m c t h, part_at, blk0, h, show t.val / 11 * 512 = 512 * (t.val / 11) by omega]
    simp only [zero_add, Finset.sum_range_one]
  induction n with
  | zero => intro hn r l; exact first ⟨0, hn⟩ rfl r l
  | succ n ih =>
    intro hn r l
    by_cases h : (n + 1) % 11 = 0
    · exact first ⟨n + 1, hn⟩ h r l
    · have e := ih (by omega) r l
      have y := y_B m c ⟨n + 1, hn⟩ h r l
      rw [part_at] at y
      refine y.trans ?_
      show (outsAt0 m c n _).1 (ix2 r l) + _ = _
      rw [e]
      show _ + (∑ q : Fin 512, act (tabs m c) (512 * ((n + 1) / 11) + r.val) ((n + 1) % 11 * 512 + q.val) * (tabs m c).d ((n + 1) % 11 * 512 + q.val) l.val) = _
      rw [show (n + 1) / 11 = n / 11 by omega, show (n + 1) % 11 = n % 11 + 1 by omega, Finset.sum_range_succ _ (n % 11 + 1), add_assoc]

theorem y_last (c : Dev nD) (n : ℕ) (hn : n < cfg0.N) (h : n % 11 = 10) (r : Fin 512) (l : Fin 2048) :
    (outsAt0 m c n hn).1 (ix2 r l) = out (tabs m c) (512 * (n / 11) + r.val) l.val := by
  rw [y_at, h, out, sum_pad (fun p => act (tabs m c) (512 * (n / 11) + r.val) p) (fun p => (tabs m c).d p l.val)]
  intro p hp
  simp [tabs, Data.of, tab, Nat.not_lt.2 hp]

theorem sa_at (c : Dev nD) (t : Fin cfg0.N) (r : Fin 2) (q : Fin 512) :
    (outsAt0 m c t.val t.isLt).2.1 (ix3 0 r q) = FfnSpec.up (tabs m c) (tabs m c).wl (512 * (t.val / 11) + 510 + r.val) (t.val % 11 * 512 + q.val) := by
  rw [sa, up_at m c t _ _ (blk3 m c t), if_neg (by show ¬(526 + r.val < 16 ∧ _); omega)]
  show FfnSpec.up _ _ (512 * (t.val / 11) + (526 + r.val) - 16) _ = _
  rw [show 512 * (t.val / 11) + (526 + r.val) - 16 = 512 * (t.val / 11) + 510 + r.val by omega]

theorem sg_at (c : Dev nD) (t : Fin cfg0.N) (r : Fin 2) (q : Fin 512) :
    (outsAt0 m c t.val t.isLt).2.2.1 (ix3 0 r q) = FfnSpec.up (tabs m c) (tabs m c).wh (512 * (t.val / 11) + 510 + r.val) (t.val % 11 * 512 + q.val) := by
  rw [sg, up_at m c t _ _ (blk4 m c t), if_neg (by show ¬(526 + r.val < 16 ∧ _); omega)]
  show FfnSpec.up _ _ (512 * (t.val / 11) + (526 + r.val) - 16) _ = _
  rw [show 512 * (t.val / 11) + (526 + r.val) - 16 = 512 * (t.val / 11) + 510 + r.val by omega]

/-- The call's result array. -/
theorem final_y (c : Dev nD) (r : Fin 16384) (l : Fin 2048) : (dats m 0 c).arrAt 10 cfg0.N (ix2 r l) = out (tabs m c) r.val l.val := by
  rw [final10]
  have hp : pt10Of (ix2 r l) = 11 * (r.val / 512) + 10 := by
    show 11 * (1 * (r.val / 512 - 0) + 1 * (l.val / 2048 - 0)) + 10 = _
    omega
  have hN : pt10Of (ix2 r l) < cfg0.N := lt_of_lt_of_eq (by omega) N_0.symm
  unfold G10
  rw [dif_pos hN, ← outsAt0_sweep m c _ hN]
  have hl : loc10Of (ix2 r l) = ix2 (⟨r.val % 512, by omega⟩ : Fin 512) l := by
    funext a; apply Fin.ext; revert a; refine Fin.forall_fin_two.2 ⟨rfl, ?_⟩
    show l.val % 2048 = l.val; omega
  rw [hl, y_last m c _ hN (by omega)]
  congr 1
  show 512 * (pt10Of (ix2 r l) / 11) + r.val % 512 = r.val
  omega

theorem final_sa (c : Dev nD) (i : Fin 32) (r : Fin 2) (p : Fin 5632) :
    (dats m 0 c).arrAt 11 cfg0.N (ix3 i r p) = FfnSpec.up (tabs m c) (tabs m c).wl (512 * i.val + 510 + r.val) p.val := by
  rw [final11]
  have hp : pt11Of (ix3 i r p) = 11 * i.val + p.val / 512 := by
    show 11 * (i.val / 1 - 0) + 11 * (r.val / 2 - 0) + 1 * (p.val / 512 - 0) = _
    omega
  have hN : pt11Of (ix3 i r p) < cfg0.N := lt_of_lt_of_eq (by omega) N_0.symm
  unfold G11
  rw [dif_pos hN, ← outsAt0_sweep m c _ hN]
  have hl : loc11Of (ix3 i r p) = ix3 0 r (⟨p.val % 512, by omega⟩ : Fin 512) := by
    funext a; apply Fin.ext; revert a; refine Fin.forall_fin_succ.2 ⟨?_, Fin.forall_fin_two.2 ⟨?_, rfl⟩⟩
    · show i.val % 1 = 0; omega
    · show r.val % 2 = r.val; omega
  rw [hl, sa_at m c ⟨_, hN⟩]
  show FfnSpec.up _ _ (512 * (pt11Of (ix3 i r p) / 11) + 510 + r.val) (pt11Of (ix3 i r p) % 11 * 512 + p.val % 512) = _
  congr 1 <;> omega

theorem final_sg (c : Dev nD) (i : Fin 32) (r : Fin 2) (p : Fin 5632) :
    (dats m 0 c).arrAt 12 cfg0.N (ix3 i r p) = FfnSpec.up (tabs m c) (tabs m c).wh (512 * i.val + 510 + r.val) p.val := by
  rw [final12]
  have hp : pt12Of (ix3 i r p) = 11 * i.val + p.val / 512 := by
    show 11 * (i.val / 1 - 0) + 11 * (r.val / 2 - 0) + 1 * (p.val / 512 - 0) = _
    omega
  have hN : pt12Of (ix3 i r p) < cfg0.N := lt_of_lt_of_eq (by omega) N_0.symm
  unfold G12
  rw [dif_pos hN, ← outsAt0_sweep m c _ hN]
  have hl : loc12Of (ix3 i r p) = ix3 0 r (⟨p.val % 512, by omega⟩ : Fin 512) := by
    funext a; apply Fin.ext; revert a; refine Fin.forall_fin_succ.2 ⟨?_, Fin.forall_fin_two.2 ⟨?_, rfl⟩⟩
    · show i.val % 1 = 0; omega
    · show r.val % 2 = r.val; omega
  rw [hl, sg_at m c ⟨_, hN⟩]
  show FfnSpec.up _ _ (512 * (pt12Of (ix3 i r p) / 11) + 510 + r.val) (pt12Of (ix3 i r p) % 11 * 512 + p.val % 512) = _
  congr 1 <;> omega

end Cert.FfnIdeal.Value
-- ==== Proof.FfnRef.lean ====
module

public import proofs.«01_k».proof.Proof.FfnSpec
public import proofs.«01_k».proof.Proof.Gen.FfnRefIdeal.Run
public import Idealize.ShloMosaic.Lib.Pointwise

/-! The reference of the feed-forward layer, read at an index: it holds the layer's tables' values. -/

@[expose] public section

set_option maxRecDepth 16384

noncomputable section

namespace Cert.FfnRefIdeal.Value

open Cert.FfnRefIdeal Cert.FfnRefIdeal.Gen Idealize.ShloMosaic Idealize.ShloMosaic.TcCoe Idealize.SL.Sem Idealize.ShloMosaic.StableHlo Cert.FfnSpec

section
variable {F : FTy → Type} [FloatOps F]

/-- The up-projected rows of the norm. -/
def hidden (x : FVec F S16384x2048 .f32) (g : FVec F S2048 .f32) (u : FVec F S2048x11008 .f32) : FVec F S8x2048x11008 .f32 :=
  Host.dotGeneral dot_S8x2048x2048_S2048x11008_S8x2048x11008_2_0_01_1_n_n none (mulf (mulf (shapeCast _ x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x shapeCasts_S16384x2048_S8x2048x2048) (shapeCast _ x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) u

/-- Two rows of zeros before every sequence. -/
def led (h : FVec F S8x2048x11008 .f32) : FVec F S8x2050x11008 .f32 :=
  concatenate S8x2050x11008 1 [⟨S8x2x11008, (broadcastInDim S8x2x11008 ![] bcast_S_S8x2x11008 (constant S_ .f32 0x00000000#32))⟩, ⟨S8x2048x11008, h⟩] concatenates_S8x2x11008_S8x2048x11008_S8x2050x11008_d1

/-- The causal convolution of three taps. -/
def mixed (e : FVec F S8x2050x11008 .f32) (w : FVec F S3x11008 .f32) (b : FVec F S11008 .f32) : FVec F S8x2048x11008 .f32 :=
  addf (addf (addf (broadcastInDim S8x2048x11008 ![0, 1, 2] bcast_S1x1x11008_S8x2048x11008_0_1_2 (broadcastInDim S1x1x11008 ![2] bcast_S11008_S1x1x11008_2 b)) (mulf (broadcastInDim S8x2048x11008 ![0, 1, 2] bcast_S1x1x11008_S8x2048x11008_0_1_2 (broadcastInDim S1x1x11008 ![2] bcast_S11008_S1x1x11008_2 (shapeCast _ (extractStridedSlice S1x11008 ![0, 0] w slices_S3x11008_S1x11008_0_0) shapeCasts_S1x11008_S11008))) (extractStridedSlice S8x2048x11008 ![0, 0, 0] e slices_S8x2050x11008_S8x2048x11008_0_0_0))) (mulf (broadcastInDim S8x2048x11008 ![0, 1, 2] bcast_S1x1x11008_S8x2048x11008_0_1_2 (broadcastInDim S1x1x11008 ![2] bcast_S11008_S1x1x11008_2 (shapeCast _ (extractStridedSlice S1x11008 ![1, 0] w slices_S3x11008_S1x11008_1_0) shapeCasts_S1x11008_S11008))) (extractStridedSlice S8x2048x11008 ![0, 1, 0] e slices_S8x2050x11008_S8x2048x11008_0_1_0))) (mulf (broadcastInDim S8x2048x11008 ![0, 1, 2] bcast_S1x1x11008_S8x2048x11008_0_1_2 (broadcastInDim S1x1x11008 ![2] bcast_S11008_S1x1x11008_2 (shapeCast _ (extractStridedSlice S1x11008 ![2, 0] w slices_S3x11008_S1x11008_2_0) shapeCasts_S1x11008_S11008))) (extractStridedSlice S8x2048x11008 ![0, 2, 0] e slices_S8x2050x11008_S8x2048x11008_0_2_0))

/-- The gate, the down-projection and the residual. -/
def closed (x : FVec F S16384x2048 .f32) (hc : FVec F S8x2048x11008 .f32) (d : FVec F S5504x2048 .f32) : FVec F S16384x2048 .f32 :=
  shapeCast _ (addf (shapeCast _ x shapeCasts_S16384x2048_S8x2048x2048) (Host.dotGeneral dot_S8x2048x5504_S5504x2048_S8x2048x2048_2_0_01_1_n_n none (mulf (mulf (extractStridedSlice S8x2048x5504 ![0, 0, 5504] hc slices_S8x2048x11008_S8x2048x5504_0_0_5504) (Host.divf (broadcastInDim S8x2048x5504 ![] bcast_S_S8x2048x5504 (constant S_ .f32 0x3F800000#32)) (addf (broadcastInDim S8x2048x5504 ![] bcast_S_S8x2048x5504 (constant S_ .f32 0x3F800000#32)) (Host.exp (Host.negf (extractStridedSlice S8x2048x5504 ![0, 0, 5504] hc slices_S8x2048x11008_S8x2048x5504_0_0_5504)))))) (extractStridedSlice S8x2048x5504 ![0, 0, 0] hc slices_S8x2048x11008_S8x2048x5504_0_0_0)) d)) shapeCasts_S8x2048x2048_S16384x2048

/-- The last two rows of every 512, the first half of the columns. -/
def lastA (h : FVec F S8x2048x11008 .f32) : FVec F S32x2x5632 .f32 :=
  pad S32x2x5632 ![0, 0, 0] ![0, 0, 128] ![0, 0, 0] (extractStridedSlice S32x2x5504 ![0, 0, 0] (extractStridedSlice S32x2x11008 ![0, 510, 0] (shapeCast _ h shapeCasts_S8x2048x11008_S32x512x11008) slices_S32x512x11008_S32x2x11008_0_510_0) slices_S32x2x11008_S32x2x5504_0_0_0) (sitofp .f32 (constantI S_ 32 0#32)) pads_S32x2x5504_S32x2x5632_000_000_01280 h_S_

/-- The last two rows of every 512, the second half of the columns. -/
def lastG (h : FVec F S8x2048x11008 .f32) : FVec F S32x2x5632 .f32 :=
  pad S32x2x5632 ![0, 0, 0] ![0, 0, 128] ![0, 0, 0] (extractStridedSlice S32x2x5504 ![0, 0, 5504] (extractStridedSlice S32x2x11008 ![0, 510, 0] (shapeCast _ h shapeCasts_S8x2048x11008_S32x512x11008) slices_S32x512x11008_S32x2x11008_0_510_0) slices_S32x2x11008_S32x2x5504_0_0_5504) (sitofp .f32 (constantI S_ 32 0#32)) pads_S32x2x5504_S32x2x5632_000_000_01280 h_S_

end

variable (m : (ℓ : Loc nD τ sig) → Buf (Elt Ideal) ℓ)

def theX (c : Dev nD) : Vec Ideal S16384x2048 .f32 := m ((c.tc : Thread nD τ).loc main_arg0)
def theH (c : Dev nD) : Vec Ideal S8x2048x11008 .f32 :=
  hidden (F := Ideal) (theX m c) (m ((c.tc : Thread nD τ).loc main_arg1)) (m ((c.tc : Thread nD τ).loc main_arg2))

theorem res_closed (c : Dev nD) : res_main_v48 m c = closed (F := Ideal) (theX m c) (mixed (F := Ideal) (led (F := Ideal) (theH m c)) (m ((c.tc : Thread nD τ).loc main_arg3)) (m ((c.tc : Thread nD τ).loc main_arg4)))
    (m ((c.tc : Thread nD τ).loc main_arg5)) := rfl

/-- The layer's tables at the launch's arguments. -/
def tabs (c : Dev nD) : Data := Data.of (fun r k => m ((c.tc : Thread nD τ).loc main_arg0) (ix2 r k)) (fun k => m ((c.tc : Thread nD τ).loc main_arg1) (ix1 k))
  (fun k p => m ((c.tc : Thread nD τ).loc main_arg2) (ix2 k p)) (fun a p => m ((c.tc : Thread nD τ).loc main_arg3) (ix2 a p))
  (fun p => m ((c.tc : Thread nD τ).loc main_arg4) (ix1 p)) (fun p l => m ((c.tc : Thread nD τ).loc main_arg5) (ix2 p l))

theorem zero_int : (FloatOps.sitofp (F := Ideal) FTy.f32 (0#32) : EReal) = 0 := by
  show (((0#32 : BitVec 32).toInt : ℝ) : EReal) = 0
  simp

theorem hidden_at (c : Dev nD) (w : ℕ → ℕ → EReal) (p : ℕ) (P : Fin 11008)
    (hw : ∀ k : Fin 2048, m ((c.tc : Thread nD τ).loc main_arg2) (ix2 k P) = w k.val p) (b : Fin 8) (s : Fin 2048) :
    theH m c (ix3 b s P) = up (tabs m c) w (b.val * 2048 + s.val) p := by
  unfold theH
  pointwise [hidden]
  unfold up nrm
  have ex : ∀ j : Fin 2048, (tabs m c).x (b.val * 2048 + s.val) j.val = theX m c (ix2 ⟨b.val * 2048 + s.val, by omega⟩ j) :=
    fun j => by simp only [tabs, Data.of, theX]; exact tab_in _ _ _ (by omega) j.isLt
  have eg : ∀ j : Fin 2048, (tabs m c).g 0 j.val = m ((c.tc : Thread nD τ).loc main_arg1) (ix1 j) := fun j => by simp [tabs, Data.of, tab]
  simp only [ex, eg, ← hw]

theorem led_at (c : Dev nD) (w : ℕ → ℕ → EReal) (p : ℕ) (P : Fin 11008)
    (hw : ∀ k : Fin 2048, m ((c.tc : Thread nD τ).loc main_arg2) (ix2 k P) = w k.val p) (b : Fin 8) (s : Fin 2048) (a : ℕ) (ha : a < 3)
    (h : a + s.val < 2050) :
    led (F := Ideal) (theH m c) (ix3 b ⟨a + s.val, h⟩ P) = tap (tabs m c) w (b.val * 2048 + s.val) a p := by
  pointwise [led]
  unfold tap
  by_cases h2 : a + s.val < 2
  · rw [dif_pos h2, if_pos (by omega)]
  · rw [dif_neg h2, if_neg (show ¬((b.val * 2048 + s.val) % 2048 + a < 2) by omega)]
    refine Eq.trans (hidden_at m c w p P hw b ⟨a + s.val - 2, by omega⟩) ?_
    show up _ _ (b.val * 2048 + (a + s.val - 2)) p = _
    rw [show b.val * 2048 + (a + s.val - 2) = b.val * 2048 + s.val + a - 2 by omega]

theorem mixed_at (c : Dev nD) (w cw bs : ℕ → ℕ → EReal) (p : ℕ) (P : Fin 11008)
    (hw : ∀ k : Fin 2048, m ((c.tc : Thread nD τ).loc main_arg2) (ix2 k P) = w k.val p)
    (hc : ∀ a : Fin 3, m ((c.tc : Thread nD τ).loc main_arg3) (ix2 a P) = cw a.val p)
    (hb : m ((c.tc : Thread nD τ).loc main_arg4) (ix1 P) = bs 0 p) (b : Fin 8) (s : Fin 2048) :
    mixed (F := Ideal) (led (F := Ideal) (theH m c)) (m ((c.tc : Thread nD τ).loc main_arg3)) (m ((c.tc : Thread nD τ).loc main_arg4)) (ix3 b s P)
      = conv (tabs m c) w cw bs (b.val * 2048 + s.val) p := by
  generalize hE : led (F := Ideal) (theH m c) = e
  pointwise [mixed]
  rw [hb, hc, hc, hc, ← hE]
  unfold conv
  rw [← led_at m c w p P hw b s 0 (by omega) (by omega), ← led_at m c w p P hw b s 1 (by omega) (by omega),
    ← led_at m c w p P hw b s 2 (by omega) (by omega)]
  simp only [Nat.zero_add]
  rfl

theorem res_y (c : Dev nD) (r : Fin 16384) (l : Fin 2048) : res_main_v48 m c (ix2 r l) = out (tabs m c) r.val l.val := by
  rw [res_closed]
  have hi : ∀ (b : Fin 8) (s : Fin 2048) (q : Fin 5504), mixed (F := Ideal) (led (F := Ideal) (theH m c)) (m ((c.tc : Thread nD τ).loc main_arg3))
      (m ((c.tc : Thread nD τ).loc main_arg4)) (ix3 b s ⟨5504 + q.val, by omega⟩)
      = conv (tabs m c) (tabs m c).wh (tabs m c).ch (tabs m c).bh (b.val * 2048 + s.val) q.val := fun b s q =>
    mixed_at m c _ _ _ q.val ⟨5504 + q.val, by omega⟩ (fun k => by simp [tabs, Data.of, tab]) (fun a => by simp [tabs, Data.of, tab]) (by simp [tabs, Data.of, tab]) b s
  have lo : ∀ (b : Fin 8) (s : Fin 2048) (q : Fin 5504), mixed (F := Ideal) (led (F := Ideal) (theH m c)) (m ((c.tc : Thread nD τ).loc main_arg3))
      (m ((c.tc : Thread nD τ).loc main_arg4)) (ix3 b s ⟨q.val, by omega⟩)
      = conv (tabs m c) (tabs m c).wl (tabs m c).cl (tabs m c).bl (b.val * 2048 + s.val) q.val := fun b s q =>
    mixed_at m c _ _ _ q.val ⟨q.val, by omega⟩ (fun k => by simp [tabs, Data.of, tab]) (fun a => by simp [tabs, Data.of, tab]) (by simp [tabs, Data.of, tab]) b s
  generalize mixed (F := Ideal) (led (F := Ideal) (theH m c)) (m ((c.tc : Thread nD τ).loc main_arg3)) (m ((c.tc : Thread nD τ).loc main_arg4)) = e at hi lo ⊢
  have hr : r.val / 2048 * 2048 + r.val % 2048 = r.val := by omega
  have ex : theX m c (ix2 r l) = (tabs m c).x r.val l.val := by simp [tabs, Data.of, tab, theX]
  have ed : ∀ q : Fin 5504, m ((c.tc : Thread nD τ).loc main_arg5) (ix2 q l) = (tabs m c).d q.val l.val := fun q => by simp [tabs, Data.of, tab]
  pointwise [closed]
  rw [ex]
  unfold out act Ideal.logistic
  simp only [hi, lo, ed, hr]

theorem last_a (c : Dev nD) (i : Fin 32) (r : Fin 2) (p : Fin 5632) :
    lastA (F := Ideal) (theH m c) (ix3 i r p) = up (tabs m c) (tabs m c).wl (512 * i.val + 510 + r.val) p.val := by
  have e := fun (q : Fin 5504) (b : Fin 8) (s : Fin 2048) => hidden_at m c (tabs m c).wl q.val ⟨q.val, by omega⟩ (fun k => by simp [tabs, Data.of, tab]) b s
  generalize theH m c = h at e ⊢
  pointwise [lastA]
  by_cases hp : p.val < 5504
  · rw [dif_pos hp, e ⟨p.val, hp⟩]
    show up _ _ (i.val / 4 * 2048 + (i.val % 4 * 512 + (510 + r.val))) p.val = _
    rw [show i.val / 4 * 2048 + (i.val % 4 * 512 + (510 + r.val)) = 512 * i.val + 510 + r.val by omega]
  · rw [dif_neg hp, zero_int]
    unfold up
    symm
    refine Finset.sum_eq_zero fun k _ => ?_
    rw [show (tabs m c).wl k.val p.val = 0 by simp [tabs, Data.of, tab, hp], mul_zero]

theorem last_g (c : Dev nD) (i : Fin 32) (r : Fin 2) (p : Fin 5632) :
    lastG (F := Ideal) (theH m c) (ix3 i r p) = up (tabs m c) (tabs m c).wh (512 * i.val + 510 + r.val) p.val := by
  have e := fun (q : Fin 5504) (b : Fin 8) (s : Fin 2048) => hidden_at m c (tabs m c).wh q.val ⟨5504 + q.val, by omega⟩ (fun k => by simp [tabs, Data.of, tab]) b s
  generalize theH m c = h at e ⊢
  pointwise [lastG]
  by_cases hp : p.val < 5504
  · rw [dif_pos hp, e ⟨p.val, hp⟩]
    show up _ _ (i.val / 4 * 2048 + (i.val % 4 * 512 + (510 + r.val))) p.val = _
    rw [show i.val / 4 * 2048 + (i.val % 4 * 512 + (510 + r.val)) = 512 * i.val + 510 + r.val by omega]
  · rw [dif_neg hp, zero_int]
    unfold up
    symm
    refine Finset.sum_eq_zero fun k _ => ?_
    rw [show (tabs m c).wh k.val p.val = 0 by simp [tabs, Data.of, tab, hp], mul_zero]

end Cert.FfnRefIdeal.Value
-- ==== Proof.FfnClaim.lean ====
module

public import proofs.«01_k».proof.Defs
public import proofs.«01_k».proof.Proof.Gen.FfnIdeal.Frame
public import proofs.«01_k».proof.Proof.FfnPoint
public import proofs.«01_k».proof.Proof.FfnRef

/-! The feed-forward call against its reference: the three results agree over the extended reals. -/

@[expose] public section

set_option maxRecDepth 16384

noncomputable section

namespace Cert.FfnClaim

open Idealize.ShloMosaic Idealize.ShloMosaic.TcCoe Idealize.SL.Sem

theorem frame_ref : Cert.quiescent_FfnRefIdeal (hFfnRefIdeal := Cert.FfnRefIdeal.Gen.facts) := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

theorem value : Cert.algebraic_FfnIdeal_FfnRefIdeal (hFfnIdeal := Cert.FfnIdeal.Gen.facts) (hFfnRefIdeal := Cert.FfnRefIdeal.Gen.facts) := by
  intro m g m' g' _ hagree
  have ht : ∀ c : Dev Cert.FfnIdeal.nD, Cert.FfnRefIdeal.Value.tabs m' c = Cert.FfnIdeal.Value.tabs m c := by
    intro c
    obtain ⟨h0, h1, h2, h3, h4, h5⟩ := hagree c
    unfold Cert.FfnRefIdeal.Value.tabs
    rw [h0, h1, h2, h3, h4, h5]
    rfl
  refine ⟨fun c => (Cert.FfnIdeal.Gen.dats m 0 c).arrAt 10 Cert.FfnIdeal.cfg0.N, fun c => (Cert.FfnIdeal.Gen.dats m 0 c).arrAt 11 Cert.FfnIdeal.cfg0.N,
    fun c => (Cert.FfnIdeal.Gen.dats m 0 c).arrAt 12 Cert.FfnIdeal.cfg0.N, Cert.FfnIdeal.Value.run_blocks m g, ?_⟩
  refine (θ_run Cert.FfnRefIdeal.defs _ _).mono (fun r h c => ?_) (Cert.FfnRefIdeal.Value.run (F := Ideal) m' g')
  obtain ⟨r0, r1, r2, k⟩ := h c
  refine ⟨r0.trans ?_, r1.trans ?_, r2.trans ?_, k⟩
  · funext i
    idx_vars i
    exact (Cert.FfnRefIdeal.Value.res_y m' c _ _).trans ((congrArg (fun D => Cert.FfnSpec.out D _ _) (ht c)).trans (Cert.FfnIdeal.Value.final_y m c _ _).symm)
  · funext i
    idx_vars i
    exact (Cert.FfnRefIdeal.Value.last_a m' c _ _ _).trans ((congrArg (fun D => Cert.FfnSpec.up D D.wl _ _) (ht c)).trans (Cert.FfnIdeal.Value.final_sa m c _ _ _).symm)
  · funext i
    idx_vars i
    exact (Cert.FfnRefIdeal.Value.last_g m' c _ _ _).trans ((congrArg (fun D => Cert.FfnSpec.up D D.wh _ _) (ht c)).trans (Cert.FfnIdeal.Value.final_sg m c _ _ _).symm)

end Cert.FfnClaim
-- ==== Proof.ProjSpec.lean ====
module

public import proofs.«01_k».proof.Proof.FfnSpec

/-! The input projection over the extended reals, written index by index over tables that read zero outside their
    arrays: the norm, the product, the heads' norms, the two gated halves and the layer norm of the second. -/

@[expose] public section

noncomputable section

namespace Cert.ProjSpec

open Idealize.ShloMosaic Cert.FfnSpec

/-- The arguments as tables: the rows, the norm's scale, the weights, the heads' scales and the layer norm's scale and
    shift; a vector is a table of one row. -/
structure Data where
  x : ℕ → ℕ → EReal
  g : ℕ → ℕ → EReal
  w : ℕ → ℕ → EReal
  gq : ℕ → ℕ → EReal
  gk : ℕ → ℕ → EReal
  lg : ℕ → ℕ → EReal
  lb : ℕ → ℕ → EReal

/-- The tables of the seven argument arrays. -/
def Data.of (x : Fin 16384 → Fin 2048 → EReal) (g : Fin 2048 → EReal) (w : Fin 2048 → Fin 3328 → EReal) (gq gk : Fin 64 → EReal)
    (lg lb : Fin 1024 → EReal) : Data where
  x := tab x
  g := tab fun (_ : Fin 1) k => g k
  w := tab w
  gq := tab fun (_ : Fin 1) k => gq k
  gk := tab fun (_ : Fin 1) k => gk k
  lg := tab fun (_ : Fin 1) k => lg k
  lb := tab fun (_ : Fin 1) k => lb k

variable (D : Data)

/-- A row of the root-mean-square norm. -/
def nrm (r k : ℕ) : EReal :=
  D.x r k * Ideal.rsqrt (Ideal.div (∑ j : Fin 2048, D.x r j.val * D.x r j.val) (Ideal.ofBits FTy.f32 1157627904#32)
    + Ideal.ofBits FTy.f32 897988541#32) * D.g 0 k

/-- The product with the weights. -/
def z (r p : ℕ) : EReal := ∑ k : Fin 2048, nrm D r k.val * D.w k.val p

/-- The inverse root mean square of the head of 64 columns that starts at `o`. -/
def inv (Z : ℕ → EReal) (o : ℕ) : EReal :=
  Ideal.rsqrt (Ideal.div (∑ j : Fin 64, Z (o + j.val) * Z (o + j.val)) (Ideal.ofBits FTy.f32 1115684864#32)
    + Ideal.ofBits FTy.f32 897988541#32)

/-- Column `p` normalised within its head of 64 columns. -/
def head (Z : ℕ → EReal) (p : ℕ) : EReal := Z p * inv Z (p / 64 * 64)

/-- The queries, scaled by one eighth. -/
def q (r p : ℕ) : EReal := head (z D r) p * D.gq 0 (p % 64) * Ideal.ofBits FTy.f32 1040187392#32

/-- The keys. -/
def k (r p : ℕ) : EReal := head (z D r) (1024 + p) * D.gk 0 (p % 64)

/-- The values. -/
def v (r p : ℕ) : EReal := z D r (1152 + p)

/-- The gated activation by the hyperbolic tangent. -/
def gelu (s : EReal) : EReal :=
  s * (Ideal.ofBits FTy.f32 1056964608#32 * (1
    + Ideal.tanh (Ideal.ofBits FTy.f32 1061962282#32 * (s + Ideal.ofBits FTy.f32 1027024659#32 * (s * (s * s))))))

/-- The gate's first half. -/
def u (r p : ℕ) : EReal := gelu (z D r (1280 + p))

/-- The gate's second half less its mean. -/
def dev (r p : ℕ) : EReal :=
  gelu (z D r (2304 + p)) - Ideal.div (∑ j : Fin 1024, gelu (z D r (2304 + j.val))) (Ideal.ofBits FTy.f32 1149239296#32)

/-- The layer norm of the gate's second half. -/
def vs (r p : ℕ) : EReal :=
  dev D r p * Ideal.rsqrt (Ideal.div (∑ j : Fin 1024, dev D r j.val * dev D r j.val) (Ideal.ofBits FTy.f32 1149239296#32)
    + Ideal.ofBits FTy.f32 897988541#32) * D.lg 0 p + D.lb 0 p

/-- The lanes below 64, told by a signed comparison of their numbers. -/
theorem lane_lt (l : Fin 128) : IntOp.cmpi .slt (BitVec.ofNat 32 l.val) 64#32 = BitVec.ofBool (decide (l.val < 64)) := by
  revert l
  decide

theorem pick (l : Fin 128) (a b : EReal) : Scalar.select (IntOp.cmpi .slt (BitVec.ofNat 32 l.val) 64#32) a b = if l.val < 64 then a else b := by
  rw [lane_lt]
  by_cases h : l.val < 64
  · simp [h, Scalar.select]
  · simp [h, Scalar.select]

theorem sum_lo (f : ℕ → EReal) : (∑ x : Fin 128, if x.val < 64 then f x.val else 0) = ∑ j : Fin 64, f j.val := by
  show (∑ x : Fin (64 + 64), if x.val < 64 then f x.val else 0) = _
  rw [Fin.sum_univ_add]
  simp

theorem sum_hi (f : ℕ → EReal) : (∑ x : Fin 128, if x.val < 64 then 0 else f x.val) = ∑ j : Fin 64, f (64 + j.val) := by
  show (∑ x : Fin (64 + 64), if x.val < 64 then 0 else f x.val) = _
  rw [Fin.sum_univ_add]
  simp [Nat.add_comm]

/-- Two heads side by side in 128 lanes, each lane scaled by its own half's inverse root mean square. -/
theorem pair (Z : ℕ → EReal) (o : ℕ) (ho : o % 64 = 0) (y : Fin 128 → EReal) (hy : ∀ x, y x = Z (o + x.val)) (l : Fin 128) :
    y l * Scalar.select (IntOp.cmpi .slt (BitVec.ofNat 32 l.val) 64#32)
      (Ideal.rsqrt (Ideal.div (∑ x : Fin 128, Scalar.select (IntOp.cmpi .slt (BitVec.ofNat 32 x.val) 64#32) (y x * y x) 0) (Ideal.ofBits FTy.f32 1115684864#32)
        + Ideal.ofBits FTy.f32 897988541#32))
      (Ideal.rsqrt (Ideal.div (∑ x : Fin 128, Scalar.select (IntOp.cmpi .slt (BitVec.ofNat 32 x.val) 64#32) 0 (y x * y x)) (Ideal.ofBits FTy.f32 1115684864#32)
        + Ideal.ofBits FTy.f32 897988541#32)) = head Z (o + l.val) := by
  simp only [pick, hy]
  rw [sum_lo fun x => Z (o + x) * Z (o + x), sum_hi fun x => Z (o + x) * Z (o + x)]
  unfold head inv
  by_cases h : l.val < 64
  · rw [if_pos h, show (o + l.val) / 64 * 64 = o by omega]
  · rw [if_neg h, show (o + l.val) / 64 * 64 = o + 64 by omega]
    simp only [Nat.add_assoc]

end Cert.ProjSpec
-- ==== Proof.ProjPoint.lean ====
module

public import proofs.«01_k».proof.Proof.ProjSpec
public import proofs.«01_k».proof.Proof.Gen.ProjIdeal.Value
public import Idealize.ShloMosaic.Lib.Pointwise
public import Idealize.ShloMosaic.Lib.Pipeline.ValueKit.Point
public import Idealize.ShloMosaic.Lib.StableHlo.ReadAt

/-! The body of the input projection's kernel, read at an index: of blocks that hold the tables' values it leaves the
    tables' results. -/

@[expose] public section

set_option maxRecDepth 16384

noncomputable section

namespace Cert.ProjIdeal.Value

open Cert.ProjIdeal Cert.ProjIdeal.Gen Idealize.ShloMosaic Idealize.ShloMosaic.TcCoe Idealize.SL.Sem Cert.ProjSpec

section pieces

variable (y : FVec Ideal S256x1024 .f32) (e : FVec Ideal S1x128 .f32) (Z : ℕ → EReal) (r : Fin 256) (hz : ∀ p : Fin 1024, y (ix2 r p) = Z p.val) (l : Fin 128)

include hz in
theorem piece0 (x : Vec Ideal S256x2048 .f32) (a : Vec Ideal S1x2048 .f32) (w : Vec Ideal S2048x1024 .bf16) (hy : k0_pay3 x a w = y) :
    k0_pay10 e (k0_pay5 x a w) k0_pay6 (k0_pay8 x a w) (k0_pay9 x a w) (FloatOps.ofBits FTy.f32 1115684864#32) (ix2 r l)
      = head Z l.val * e (ix2 0 l) * Ideal.ofBits FTy.f32 1040187392#32 := by
  simp only [k0_pay5, k0_pay7, k0_pay8, k0_pay9, hy]
  pointwise [k0_pay10, k0_pay6]
  exact congrArg (· * e (ix2 0 l) * Ideal.ofBits FTy.f32 1040187392#32)
    (pair Z 0 (by norm_num) (fun x => y (ix2 r ⟨x.val, by omega⟩)) (fun x => (hz _).trans (by rw [Nat.zero_add])) l
      |>.trans (by rw [Nat.zero_add]))

include hz in
theorem piece1 : k0_pay12 e (k0_pay11 y) (ix2 r l) = head Z (128 + l.val) * e (ix2 0 l) * Ideal.ofBits FTy.f32 1040187392#32 := by
  pointwise [k0_pay12, k0_pay11]
  exact congrArg (· * e (ix2 0 l) * Ideal.ofBits FTy.f32 1040187392#32)
    (pair Z 128 (by norm_num) (fun x => y (ix2 r ⟨128 + x.val, by omega⟩)) (fun x => hz _) l)

include hz in
theorem piece2 : k0_pay13 y e (ix2 r l) = head Z (256 + l.val) * e (ix2 0 l) * Ideal.ofBits FTy.f32 1040187392#32 := by
  pointwise [k0_pay13]
  exact congrArg (· * e (ix2 0 l) * Ideal.ofBits FTy.f32 1040187392#32)
    (pair Z 256 (by norm_num) (fun x => y (ix2 r ⟨256 + x.val, by omega⟩)) (fun x => hz _) l)

include hz in
theorem piece3 : k0_pay15 e (k0_pay14 y) (iota .tc S256x128 32 [1] iota_S256x128_d1_w32) (ix2 r l) = head Z (384 + l.val) * e (ix2 0 l) * Ideal.ofBits FTy.f32 1040187392#32 := by
  pointwise [k0_pay15, k0_pay14]
  exact congrArg (· * e (ix2 0 l) * Ideal.ofBits FTy.f32 1040187392#32)
    (pair Z 384 (by norm_num) (fun x => y (ix2 r ⟨384 + x.val, by omega⟩)) (fun x => hz _) l)

include hz in
theorem piece4 : k0_pay21 e (k0_pay16 y) k0_pay17 (k0_pay18 y) (k0_pay19 y) (k0_pay20 (F := Ideal)) (ix2 r l) = head Z (512 + l.val) * e (ix2 0 l) * Ideal.ofBits FTy.f32 1040187392#32 := by
  pointwise [k0_pay21, k0_pay16, k0_pay17, k0_pay18, k0_pay19, k0_pay20]
  exact congrArg (· * e (ix2 0 l) * Ideal.ofBits FTy.f32 1040187392#32)
    (pair Z 512 (by norm_num) (fun x => y (ix2 r ⟨512 + x.val, by omega⟩)) (fun x => hz _) l)

include hz in
theorem piece5 : k0_pay27 e (k0_pay22 y) k0_pay23 (k0_pay25 y) (k0_pay26 y) (FloatOps.ofBits FTy.f32 1115684864#32) (ix2 r l) = head Z (640 + l.val) * e (ix2 0 l) * Ideal.ofBits FTy.f32 1040187392#32 := by
  pointwise [k0_pay27, k0_pay22, k0_pay23, k0_pay25, k0_pay26, k0_pay24]
  exact congrArg (· * e (ix2 0 l) * Ideal.ofBits FTy.f32 1040187392#32)
    (pair Z 640 (by norm_num) (fun x => y (ix2 r ⟨640 + x.val, by omega⟩)) (fun x => hz _) l)

include hz in
theorem piece6 : k0_pay29 e (k0_pay28 y) (ix2 r l) = head Z (768 + l.val) * e (ix2 0 l) * Ideal.ofBits FTy.f32 1040187392#32 := by
  pointwise [k0_pay29, k0_pay28]
  exact congrArg (· * e (ix2 0 l) * Ideal.ofBits FTy.f32 1040187392#32)
    (pair Z 768 (by norm_num) (fun x => y (ix2 r ⟨768 + x.val, by omega⟩)) (fun x => hz _) l)

include hz in
theorem piece7 : k0_pay30 y e (ix2 r l) = head Z (896 + l.val) * e (ix2 0 l) * Ideal.ofBits FTy.f32 1040187392#32 := by
  pointwise [k0_pay30]
  exact congrArg (· * e (ix2 0 l) * Ideal.ofBits FTy.f32 1040187392#32)
    (pair Z 896 (by norm_num) (fun x => y (ix2 r ⟨896 + x.val, by omega⟩)) (fun x => hz _) l)

end pieces

variable (D : Data) (R : ℕ) (X : Vec Ideal S256x2048 .f32) (A : Vec Ideal S1x2048 .f32) (W : Vec Ideal S2048x3328 .bf16)
  (Q K : Vec Ideal S1x128 .f32) (L B : Vec Ideal S1x1024 .f32)
  (hX : ∀ (r : Fin 256) (k : Fin 2048), X (ix2 r k) = D.x (R + r.val) k.val)
  (hA : ∀ k : Fin 2048, A (ix2 0 k) = D.g 0 k.val)
  (hW : ∀ (k : Fin 2048) (p : Fin 3328), W (ix2 k p) = D.w k.val p.val)

include hX hA in
theorem nrm_at (r : Fin 256) (k : Fin 2048) : k0_pay37 X A W Q K L B (ix2 r k) = nrm D (R + r.val) k.val := by
  pointwise [k0_pay37, k0_pay2]
  simp only [hX, hA]
  rfl

include hX hA hW in
theorem zq_at (r : Fin 256) (p : Fin 1024) : k0_pay38 X A W Q K L B (ix2 r p) = z D (R + r.val) p.val := by
  pointwise [k0_pay38, k0_pay3, k0_pay2]
  simp only [hX, hA, hW]
  rfl

theorem zq_eq : k0_pay3 X A (View.ld W r0_2) = k0_pay38 X A W Q K L B := by
  unfold k0_pay38
  rw [show View.ld X r0_0 = X from by apply View.ld_unit_lit; decide, show View.ld A r0_1 = A from by apply View.ld_unit_lit; decide]

theorem gq_at (l : Fin 128) : k0_pay39 X A W Q K L B (ix2 0 l) = Q (ix2 0 l) := by
  pointwise [k0_pay39, k0_pay4]

include hX hA hW in
theorem k_at (hK : ∀ l : Fin 128, K (ix2 0 l) = D.gk 0 (l.val % 64)) (r : Fin 256) (l : Fin 128) :
    k0_pay32 (k0_pay37 X A W Q K L B) (View.ld W r0_12) K (ix2 r l) = ProjSpec.k D (R + r.val) l.val := by
  have hz : ∀ p : Fin 256, k0_pay31 (k0_pay37 X A W Q K L B) (View.ld W r0_12) (ix2 r p) = z D (R + r.val) (1024 + p.val) := fun p => by
    have hn := nrm_at D R X A W Q K L B hX hA r
    generalize k0_pay37 X A W Q K L B = n at hn ⊢
    pointwise [k0_pay31]
    simp only [hn, hW]
    rfl
  generalize k0_pay37 X A W Q K L B = n at hz ⊢
  generalize hy : k0_pay31 n (View.ld W r0_12) = y at hz
  pointwise [k0_pay32, hy]
  rw [hK]
  refine (congrArg (· * D.gk 0 (l.val % 64)) (pair (z D (R + r.val)) 1024 (by norm_num) (fun x => y (ix2 r ⟨x.val, by omega⟩)) (fun x => hz _) l)).trans ?_
  rfl

include hX hA hW in
theorem v_at (r : Fin 256) (l : Fin 128) :
    k0_pay33 (k0_pay37 X A W Q K L B) (View.ld W r0_12) (ix2 r l) = v D (R + r.val) l.val := by
  have hn := nrm_at D R X A W Q K L B hX hA r
  generalize k0_pay37 X A W Q K L B = n at hn ⊢
  pointwise [k0_pay33, k0_pay31]
  simp only [hn, hW, v, z, show ∀ i : ℕ, 1024 + (128 + i) = 1152 + i from fun i => by omega]

include hX hA hW in
theorem u_at (r : Fin 256) (l : Fin 1024) :
    k0_pay34 (k0_pay37 X A W Q K L B) (View.ld W r0_14) (ix2 r l) = u D (R + r.val) l.val := by
  have hn := nrm_at D R X A W Q K L B hX hA r
  generalize k0_pay37 X A W Q K L B = n at hn ⊢
  pointwise [k0_pay34]
  simp only [hn, hW]
  rfl

include hX hA hW in
theorem dev_at (r : Fin 256) (l : Fin 1024) :
    k0_pay35 (k0_pay37 X A W Q K L B) (View.ld W r0_16) (ix2 r l) = dev D (R + r.val) l.val := by
  have hn := nrm_at D R X A W Q K L B hX hA r
  generalize k0_pay37 X A W Q K L B = n at hn ⊢
  pointwise [k0_pay35]
  simp only [hn, hW]
  rfl

include hX hA hW in
theorem vs_at (hL : ∀ l : Fin 1024, L (ix2 0 l) = D.lg 0 l.val) (hB : ∀ l : Fin 1024, B (ix2 0 l) = D.lb 0 l.val) (r : Fin 256) (l : Fin 1024) :
    k0_pay1 (k0_pay35 (k0_pay37 X A W Q K L B) (View.ld W r0_16)) (k0_pay36 (k0_pay37 X A W Q K L B) (View.ld W r0_16))
      (FloatOps.ofBits FTy.f32 1149239296#32) L B (ix2 r l) = vs D (R + r.val) l.val := by
  have hd := dev_at D R X A W Q K L B hX hA hW r
  generalize k0_pay37 X A W Q K L B = n at hd ⊢
  generalize hy : k0_pay35 n (View.ld W r0_16) = y at hd
  simp only [k0_pay36, hy]
  pointwise [k0_pay1]
  simp only [hd, hL, hB]
  rfl

end Cert.ProjIdeal.Value
-- ==== Proof.ProjValue.lean ====
module

public import proofs.«01_k».proof.Proof.ProjPoint

/-! What the input projection's call leaves in its five results: the tables' values, row for row. -/

@[expose] public section

set_option maxRecDepth 16384

noncomputable section

namespace Cert.ProjIdeal.Value

open Cert.ProjIdeal Cert.ProjIdeal.Gen Idealize.ShloMosaic Idealize.ShloMosaic.TcCoe Idealize.SL.Sem Cert.ProjSpec

variable (m : (ℓ : Loc nD τ sig) → Buf (Elt Ideal) ℓ)

/-- The tables at the launch's arguments. -/
def tabs (c : Dev nD) : Data := Data.of (fun r k => m (c, Proc.tc.devRef main_arg0) (ix2 r k)) (fun k => m (c, Proc.tc.devRef main_arg1) (ix1 k))
  (fun k p => m (c, Proc.tc.devRef main_arg2) (ix2 k p)) (fun k => m (c, Proc.tc.devRef main_arg3) (ix1 k))
  (fun k => m (c, Proc.tc.devRef main_arg4) (ix1 k)) (fun k => m (c, Proc.tc.devRef main_arg5) (ix1 k))
  (fun k => m (c, Proc.tc.devRef main_arg6) (ix1 k))

theorem lt0 (t : Fin cfg0.N) : t.val < 64 := lt_of_lt_of_eq t.isLt (by decide)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)

theorem host_x (c : Dev nD) (r : Fin 16384) (k : Fin 2048) : V m c main_arg0 (ix2 r k) = (tabs m c).x r.val k.val := by
  unfold V
  simp only [hostOps0]
  after_reads_at
  simp [tabs, Data.of, FfnSpec.tab, Nat.mod_lt]

theorem host_g (c : Dev nD) (k : Fin 2048) : V m c main_v9 (ix2 0 k) = (tabs m c).g 0 k.val := by
  unfold V
  simp only [hostOps0]
  after_reads_at
  simp [tabs, Data.of, FfnSpec.tab, Nat.mod_lt]

theorem host_w (c : Dev nD) (k : Fin 2048) (p : Fin 3328) : V m c main_v0 (ix2 k p) = (tabs m c).w k.val p.val := by
  unfold V
  simp only [hostOps0]
  after_reads_at
  simp [tabs, Data.of, FfnSpec.tab, Nat.mod_lt]

theorem host_q (c : Dev nD) (l : Fin 128) : V m c main_v4 (ix2 0 l) = (tabs m c).gq 0 (l.val % 64) := by
  unfold V
  simp only [hostOps0]
  after_reads_at
  simp [tabs, Data.of, FfnSpec.tab, Nat.mod_lt]

theorem host_k (c : Dev nD) (l : Fin 128) : V m c main_v8 (ix2 0 l) = (tabs m c).gk 0 (l.val % 64) := by
  unfold V
  simp only [hostOps0]
  after_reads_at
  simp [tabs, Data.of, FfnSpec.tab, Nat.mod_lt]

theorem host_l (c : Dev nD) (l : Fin 1024) : V m c main_v10 (ix2 0 l) = (tabs m c).lg 0 l.val := by
  unfold V
  simp only [hostOps0]
  after_reads_at
  simp [tabs, Data.of, FfnSpec.tab, Nat.mod_lt]

theorem host_b (c : Dev nD) (l : Fin 1024) : V m c main_v11 (ix2 0 l) = (tabs m c).lb 0 l.val := by
  unfold V
  simp only [hostOps0]
  after_reads_at
  simp [tabs, Data.of, FfnSpec.tab, Nat.mod_lt]

theorem blk0 (c : Dev nD) (t : Fin cfg0.N) (r : Fin 256) (k : Fin 2048) : iblk m c 0 t (ix2 r k) = (tabs m c).x (t.val * 256 + r.val) k.val := by
  have ht := lt0 t
  rw [← host_x m c ⟨t.val * 256 + r.val, by omega⟩ k]
  blk_ext [iblk, at0 t]

theorem blk2 (c : Dev nD) (t : Fin cfg0.N) (k : Fin 2048) (p : Fin 3328) : iblk m c 2 t (ix2 k p) = (tabs m c).w k.val p.val := by
  rw [← host_w m c k p]
  blk_ext [iblk, at2 t]

theorem blk1 (c : Dev nD) (t : Fin cfg0.N) (l : Fin 2048) : iblk m c 1 t (ix2 0 l) = (tabs m c).g 0 l.val := by
  rw [← host_g m c l]
  blk_ext [iblk, at1 t]

theorem blk3 (c : Dev nD) (t : Fin cfg0.N) (l : Fin 128) : iblk m c 3 t (ix2 0 l) = (tabs m c).gq 0 (l.val % 64) := by
  rw [← host_q m c l]
  blk_ext [iblk, at3 t]

theorem blk4 (c : Dev nD) (t : Fin cfg0.N) (l : Fin 128) : iblk m c 4 t (ix2 0 l) = (tabs m c).gk 0 (l.val % 64) := by
  rw [← host_k m c l]
  blk_ext [iblk, at4 t]

theorem blk5 (c : Dev nD) (t : Fin cfg0.N) (l : Fin 1024) : iblk m c 5 t (ix2 0 l) = (tabs m c).lg 0 l.val := by
  rw [← host_l m c l]
  blk_ext [iblk, at5 t]

theorem blk6 (c : Dev nD) (t : Fin cfg0.N) (l : Fin 1024) : iblk m c 6 t (ix2 0 l) = (tabs m c).lb 0 l.val := by
  rw [← host_b m c l]
  blk_ext [iblk, at6 t]

/-- The eight stores of a block of the queries. -/
theorem q_at (c : Dev nD) (t : Fin cfg0.N) (y : S256x1024.Idx) :
    out0_7 (iblk m c 0 t) (iblk m c 1 t) (iblk m c 2 t) (iblk m c 3 t) (iblk m c 4 t) (iblk m c 5 t) (iblk m c 6 t) y
      = q (tabs m c) (t.val * 256 + (y 0).val) (y 1).val := by
  have hz := zq_at (tabs m c) (t.val * 256) (iblk m c 0 t) (iblk m c 1 t) (iblk m c 2 t) (iblk m c 3 t) (iblk m c 4 t) (iblk m c 5 t) (iblk m c 6 t)
    (blk0 m c t) (blk1 m c t) (blk2 m c t)
  have he := fun l => (gq_at (iblk m c 0 t) (iblk m c 1 t) (iblk m c 2 t) (iblk m c 3 t) (iblk m c 4 t) (iblk m c 5 t) (iblk m c 6 t) l).trans (blk3 m c t l)
  have h3 := zq_eq (iblk m c 0 t) (iblk m c 1 t) (iblk m c 2 t) (iblk m c 3 t) (iblk m c 4 t) (iblk m c 5 t) (iblk m c 6 t)
  frame_out
  generalize k0_pay38 (iblk m c 0 t) (iblk m c 1 t) (iblk m c 2 t) (iblk m c 3 t) (iblk m c 4 t) (iblk m c 5 t) (iblk m c 6 t) = z at hz h3 ⊢
  generalize k0_pay39 (iblk m c 0 t) (iblk m c 1 t) (iblk m c 2 t) (iblk m c 3 t) (iblk m c 4 t) (iblk m c 5 t) (iblk m c 6 t) = e at he ⊢
  refine View.canon_apply_of_pieces (Val := Elt Ideal) (e := .bf16) (fun y : S256x1024.Idx => q (tabs m c) (t.val * 256 + (y 0).val) (y 1).val) _ ?_ y (cover0_7 _ _ _ _ _ _ _ _ y)
  intro p hp x
  simp only [List.mem_cons, List.not_mem_nil, or_false] at hp
  rcases hp with rfl | rfl | rfl | rfl | rfl | rfl | rfl | rfl
  · idx_vars x
    have hi : r0_11.emb (ix2 x0 x1) = (ix2 x0 ⟨896 + x1.val, by omega⟩ : S256x1024.Idx) := by blk_ext
    refine (piece7 z e _ x0 (hz x0) x1).trans ?_
    rw [hi, he]
    show _ = q _ (t.val * 256 + x0.val) (896 + x1.val)
    unfold q
    rw [show (896 + x1.val) % 64 = x1.val % 64 by omega]
  · idx_vars x
    have hi : r0_10.emb (ix2 x0 x1) = (ix2 x0 ⟨768 + x1.val, by omega⟩ : S256x1024.Idx) := by blk_ext
    refine (piece6 z e _ x0 (hz x0) x1).trans ?_
    rw [hi, he]
    show _ = q _ (t.val * 256 + x0.val) (768 + x1.val)
    unfold q
    rw [show (768 + x1.val) % 64 = x1.val % 64 by omega]
  · idx_vars x
    have hi : r0_9.emb (ix2 x0 x1) = (ix2 x0 ⟨640 + x1.val, by omega⟩ : S256x1024.Idx) := by blk_ext
    refine (piece5 z e _ x0 (hz x0) x1).trans ?_
    rw [hi, he]
    show _ = q _ (t.val * 256 + x0.val) (640 + x1.val)
    unfold q
    rw [show (640 + x1.val) % 64 = x1.val % 64 by omega]
  · idx_vars x
    have hi : r0_8.emb (ix2 x0 x1) = (ix2 x0 ⟨512 + x1.val, by omega⟩ : S256x1024.Idx) := by blk_ext
    refine (piece4 z e _ x0 (hz x0) x1).trans ?_
    rw [hi, he]
    show _ = q _ (t.val * 256 + x0.val) (512 + x1.val)
    unfold q
    rw [show (512 + x1.val) % 64 = x1.val % 64 by omega]
  · idx_vars x
    have hi : r0_7.emb (ix2 x0 x1) = (ix2 x0 ⟨384 + x1.val, by omega⟩ : S256x1024.Idx) := by blk_ext
    refine (piece3 z e _ x0 (hz x0) x1).trans ?_
    rw [hi, he]
    show _ = q _ (t.val * 256 + x0.val) (384 + x1.val)
    unfold q
    rw [show (384 + x1.val) % 64 = x1.val % 64 by omega]
  · idx_vars x
    have hi : r0_6.emb (ix2 x0 x1) = (ix2 x0 ⟨256 + x1.val, by omega⟩ : S256x1024.Idx) := by blk_ext
    refine (piece2 z e _ x0 (hz x0) x1).trans ?_
    rw [hi, he]
    show _ = q _ (t.val * 256 + x0.val) (256 + x1.val)
    unfold q
    rw [show (256 + x1.val) % 64 = x1.val % 64 by omega]
  · idx_vars x
    have hi : r0_5.emb (ix2 x0 x1) = (ix2 x0 ⟨128 + x1.val, by omega⟩ : S256x1024.Idx) := by blk_ext
    refine (piece1 z e _ x0 (hz x0) x1).trans ?_
    rw [hi, he]
    show _ = q _ (t.val * 256 + x0.val) (128 + x1.val)
    unfold q
    rw [show (128 + x1.val) % 64 = x1.val % 64 by omega]
  · idx_vars x
    have hi : r0_4.emb (ix2 x0 x1) = (ix2 x0 ⟨x1.val, by omega⟩ : S256x1024.Idx) := by blk_ext
    refine (piece0 z e _ x0 (hz x0) x1 _ _ _ h3).trans ?_
    rw [hi, he]
    show _ = q _ (t.val * 256 + x0.val) x1.val
    unfold q
    rfl

theorem final7 (c : Dev nD) : (dats m 0 c).arrAt 7 cfg0.N = fun i : S16384x1024.Idx => q (tabs m c) (i 0).val (i 1).val := by
  generalize hG : (fun i : S16384x1024.Idx => q (tabs m c) (i 0).val (i 1).val) = G
  refine (dats m 0 c).arrAt_eq_of_covers 7 G (by decide +kernel) fun t hf y => ?_
  have ht := lt0 t
  blk_simp
  rw [after0_7]
  idx_vars y
  have he : ((View.whole main_v12_0).slice (win0_7.rect t)).emb (ix2 y0 y1) = (ix2 (⟨t.val * 256 + y0.val, by omega⟩ : Fin 16384) y1 : S16384x1024.Idx) := by
    blk_ext [at7 t]
  rw [he, ← hG]
  exact q_at m c t (ix2 y0 y1)

theorem final8 (c : Dev nD) : (dats m 0 c).arrAt 8 cfg0.N = fun i : S16384x128.Idx => ProjSpec.k (tabs m c) (i 0).val (i 1).val := by
  generalize hG : (fun i : S16384x128.Idx => ProjSpec.k (tabs m c) (i 0).val (i 1).val) = G
  refine (dats m 0 c).arrAt_eq_of_covers 8 G (by decide +kernel) fun t hf y => ?_
  have ht := lt0 t
  blk_simp
  rw [after0_8]
  frame_out
  idx_vars y
  have he : ((View.whole main_v12_1).slice (win0_8.rect t)).emb (ix2 y0 y1) = (ix2 (⟨t.val * 256 + y0.val, by omega⟩ : Fin 16384) y1 : S16384x128.Idx) := by
    blk_ext [at8 t]
  rw [he, ← hG]
  exact k_at (tabs m c) (t.val * 256) (iblk m c 0 t) (iblk m c 1 t) (iblk m c 2 t) (iblk m c 3 t) (iblk m c 4 t) (iblk m c 5 t) (iblk m c 6 t) (blk0 m c t) (blk1 m c t) (blk2 m c t) (blk4 m c t) y0 y1

theorem final9 (c : Dev nD) : (dats m 0 c).arrAt 9 cfg0.N = fun i : S16384x128.Idx => v (tabs m c) (i 0).val (i 1).val := by
  generalize hG : (fun i : S16384x128.Idx => v (tabs m c) (i 0).val (i 1).val) = G
  refine (dats m 0 c).arrAt_eq_of_covers 9 G (by decide +kernel) fun t hf y => ?_
  have ht := lt0 t
  blk_simp
  rw [after0_9]
  frame_out
  idx_vars y
  have he : ((View.whole main_v12_2).slice (win0_9.rect t)).emb (ix2 y0 y1) = (ix2 (⟨t.val * 256 + y0.val, by omega⟩ : Fin 16384) y1 : S16384x128.Idx) := by
    blk_ext [at9 t]
  rw [he, ← hG]
  exact v_at (tabs m c) (t.val * 256) (iblk m c 0 t) (iblk m c 1 t) (iblk m c 2 t) (iblk m c 3 t) (iblk m c 4 t) (iblk m c 5 t) (iblk m c 6 t) (blk0 m c t) (blk1 m c t) (blk2 m c t) y0 y1

theorem final10 (c : Dev nD) : (dats m 0 c).arrAt 10 cfg0.N = fun i : S16384x1024.Idx => u (tabs m c) (i 0).val (i 1).val := by
  generalize hG : (fun i : S16384x1024.Idx => u (tabs m c) (i 0).val (i 1).val) = G
  refine (dats m 0 c).arrAt_eq_of_covers 10 G (by decide +kernel) fun t hf y => ?_
  have ht := lt0 t
  blk_simp
  rw [after0_10]
  frame_out
  idx_vars y
  have he : ((View.whole main_v12_3).slice (win0_10.rect t)).emb (ix2 y0 y1) = (ix2 (⟨t.val * 256 + y0.val, by omega⟩ : Fin 16384) y1 : S16384x1024.Idx) := by
    blk_ext [at10 t]
  rw [he, ← hG]
  exact u_at (tabs m c) (t.val * 256) (iblk m c 0 t) (iblk m c 1 t) (iblk m c 2 t) (iblk m c 3 t) (iblk m c 4 t) (iblk m c 5 t) (iblk m c 6 t) (blk0 m c t) (blk1 m c t) (blk2 m c t) y0 y1

theorem final11 (c : Dev nD) : (dats m 0 c).arrAt 11 cfg0.N = fun i : S16384x1024.Idx => vs (tabs m c) (i 0).val (i 1).val := by
  generalize hG : (fun i : S16384x1024.Idx => vs (tabs m c) (i 0).val (i 1).val) = G
  refine (dats m 0 c).arrAt_eq_of_covers 11 G (by decide +kernel) fun t hf y => ?_
  have ht := lt0 t
  blk_simp
  rw [after0_11]
  frame_out
  idx_vars y
  have he : ((View.whole main_v12_4).slice (win0_11.rect t)).emb (ix2 y0 y1) = (ix2 (⟨t.val * 256 + y0.val, by omega⟩ : Fin 16384) y1 : S16384x1024.Idx) := by
    blk_ext [at11 t]
  rw [he, ← hG]
  exact vs_at (tabs m c) (t.val * 256) (iblk m c 0 t) (iblk m c 1 t) (iblk m c 2 t) (iblk m c 3 t) (iblk m c 4 t) (iblk m c 5 t) (iblk m c 6 t) (blk0 m c t) (blk1 m c t) (blk2 m c t) (blk5 m c t) (blk6 m c t) y0 y1

end Cert.ProjIdeal.Value
-- ==== Proof.ProjRef.lean ====
module

public import proofs.«01_k».proof.Proof.ProjSpec
public import proofs.«01_k».proof.Proof.Gen.ProjRefIdeal.Run
public import Idealize.ShloMosaic.Lib.Pointwise

/-! The reference of the input projection, read at an index: it holds the tables' values. -/

@[expose] public section

set_option maxRecDepth 16384

noncomputable section

namespace Cert.ProjRefIdeal.Value

open Cert.ProjRefIdeal Cert.ProjRefIdeal.Gen Idealize.ShloMosaic Idealize.ShloMosaic.TcCoe Idealize.SL.Sem Idealize.ShloMosaic.StableHlo Cert.ProjSpec

section
variable {F : FTy → Type} [FloatOps F]

/-- The norm's product with the weights. -/
def prod (x : FVec F S16384x2048 .f32) (g : FVec F S2048 .f32) (w : FVec F S2048x3328 .f32) : FVec F S16384x3328 .f32 :=
  Host.dotGeneral dot_S16384x2048_S2048x3328_S16384x3328_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) w

/-- The queries' columns, normalised head by head and scaled. -/
def queries (h : FVec F S16384x3328 .f32) (a : FVec F S64 .f32) : FVec F S16384x1024 .bf16 :=
  truncf .bf16 (shapeCast _ (mulf (mulf (mulf (shapeCast _ (extractStridedSlice S16384x1024 ![0, 0] h slices_S16384x3328_S16384x1024_0_0) shapeCasts_S16384x1024_S16384x16x64) (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf (shapeCast _ (extractStridedSlice S16384x1024 ![0, 0] h slices_S16384x3328_S16384x1024_0_0) shapeCasts_S16384x1024_S16384x16x64) (shapeCast _ (extractStridedSlice S16384x1024 ![0, 0] h slices_S16384x3328_S16384x1024_0_0) shapeCasts_S16384x1024_S16384x16x64)) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x1x64_S16384x16x64_0_1_2 (broadcastInDim S1x1x64 ![2] bcast_S64_S1x1x64_2 a))) (broadcastInDim S16384x16x64 ![] bcast_S_S16384x16x64 (constant S_ .f32 0x3E000000#32))) shapeCasts_S16384x16x64_S16384x1024) bitsLt_bf16_f32

/-- The keys' columns, normalised head by head. -/
def keys (h : FVec F S16384x3328 .f32) (a : FVec F S64 .f32) : FVec F S16384x128 .f32 :=
  shapeCast _ (mulf (mulf (shapeCast _ (extractStridedSlice S16384x128 ![0, 1024] h slices_S16384x3328_S16384x128_0_1024) shapeCasts_S16384x128_S16384x2x64) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (shapeCast _ (extractStridedSlice S16384x128 ![0, 1024] h slices_S16384x3328_S16384x128_0_1024) shapeCasts_S16384x128_S16384x2x64) (shapeCast _ (extractStridedSlice S16384x128 ![0, 1024] h slices_S16384x3328_S16384x128_0_1024) shapeCasts_S16384x128_S16384x2x64)) (constant S_ .f32 0x00000000#32) reducesTo_S16384x2x64_S16384x2_d2 h_S_)) (broadcastInDim S16384x2x1 ![] bcast_S_S16384x2x1 (constant S_ .f32 0x42800000#32))) (broadcastInDim S16384x2x1 ![] bcast_S_S16384x2x1 (constant S_ .f32 0x358637BD#32)))))) (broadcastInDim S16384x2x64 ![0, 1, 2] bcast_S1x1x64_S16384x2x64_0_1_2 (broadcastInDim S1x1x64 ![2] bcast_S64_S1x1x64_2 a))) shapeCasts_S16384x2x64_S16384x128

/-- The values' columns. -/
def vals (h : FVec F S16384x3328 .f32) : FVec F S16384x128 .f32 :=
  extractStridedSlice S16384x128 ![0, 1152] h slices_S16384x3328_S16384x128_0_1152

/-- The gated activation. -/
def gated (s : FVec F S16384x1024 .f32) : FVec F S16384x1024 .f32 :=
  mulf s (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf s (mulf (broadcastInDim S16384x1024 ![] bcast_S_S16384x1024 (constant S_ .f32 0x3D372713#32)) (mulf (mulf s s) s)))))))

/-- Rows less their mean. -/
def centred (y : FVec F S16384x1024 .f32) : FVec F S16384x1024 .f32 :=
  subf y (broadcastInDim S16384x1024 ![0, 1] bcast_S16384x1_S16384x1024_0_1 (Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))))

/-- Centred rows over their root mean square, scaled and shifted. -/
def scaled (y : FVec F S16384x1024 .f32) (a b : FVec F S1024 .f32) : FVec F S16384x1024 .f32 :=
  addf (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a))) (broadcastInDim S16384x1024 ![0, 1] bcast_S1x1024_S16384x1024_0_1 (broadcastInDim S1x1024 ![1] bcast_S1024_S1x1024_1 b))

/-- The gate's first half. -/
def half0 (h : FVec F S16384x3328 .f32) : FVec F S16384x1024 .f32 :=
  gated (extractStridedSlice S16384x1024 ![0, 1280] h slices_S16384x3328_S16384x1024_0_1280)

/-- The gate's second half. -/
def half1 (h : FVec F S16384x3328 .f32) : FVec F S16384x1024 .f32 :=
  gated (extractStridedSlice S16384x1024 ![0, 2304] h slices_S16384x3328_S16384x1024_0_2304)

end

variable (m : (ℓ : Loc nD τ sig) → Buf (Elt Ideal) ℓ)

/-- The product at the launch's arguments. -/
def theZ (c : Dev nD) : FVec Ideal S16384x3328 .f32 :=
  prod (F := Ideal) (m ((c.tc : Thread nD τ).loc main_arg0)) (m ((c.tc : Thread nD τ).loc main_arg1)) (m ((c.tc : Thread nD τ).loc main_arg2))

/-- The tables at the launch's arguments. -/
def tabs (c : Dev nD) : Data := Data.of (fun r k => m ((c.tc : Thread nD τ).loc main_arg0) (ix2 r k)) (fun k => m ((c.tc : Thread nD τ).loc main_arg1) (ix1 k))
  (fun k p => m ((c.tc : Thread nD τ).loc main_arg2) (ix2 k p)) (fun k => m ((c.tc : Thread nD τ).loc main_arg3) (ix1 k))
  (fun k => m ((c.tc : Thread nD τ).loc main_arg4) (ix1 k)) (fun k => m ((c.tc : Thread nD τ).loc main_arg5) (ix1 k))
  (fun k => m ((c.tc : Thread nD τ).loc main_arg6) (ix1 k))

theorem prod_at (c : Dev nD) (r : Fin 16384) (p : Fin 3328) : theZ m c (ix2 r p) = z (tabs m c) r.val p.val := by
  unfold theZ
  pointwise [prod]
  simp [z, nrm, tabs, Data.of, FfnSpec.tab]

section
variable (h : FVec Ideal S16384x3328 .f32) (D : Data) (r : Fin 16384) (hz : ∀ p : Fin 3328, h (ix2 r p) = z D r.val p.val)

include hz in
theorem q_at (a : FVec Ideal S64 .f32) (ha : ∀ l : Fin 64, a (ix1 l) = D.gq 0 l.val) (p : Fin 1024) :
    queries (F := Ideal) h a (ix2 r p) = q D r.val p.val := by
  pointwise [queries]
  simp only [hz, ha]
  rfl

include hz in
theorem k_at (a : FVec Ideal S64 .f32) (ha : ∀ l : Fin 64, a (ix1 l) = D.gk 0 l.val) (p : Fin 128) :
    keys (F := Ideal) h a (ix2 r p) = ProjSpec.k D r.val p.val := by
  pointwise [keys]
  simp only [hz, ha]
  unfold ProjSpec.k head ProjSpec.inv
  rw [show (1024 + p.val) / 64 * 64 = 1024 + p.val / 64 * 64 by omega]
  simp only [Nat.add_assoc]

include hz in
theorem v_at (p : Fin 128) : vals (F := Ideal) h (ix2 r p) = v D r.val p.val := by
  pointwise [vals]
  exact hz _

theorem gated_at (s : FVec Ideal S16384x1024 .f32) (p : Fin 1024) : gated (F := Ideal) s (ix2 r p) = gelu (s (ix2 r p)) := by
  pointwise [gated]
  unfold gelu
  rw [mul_assoc (s (ix2 r p)) (s (ix2 r p))]

include hz in
theorem u_at (p : Fin 1024) : half0 (F := Ideal) h (ix2 r p) = u D r.val p.val := by
  unfold half0
  rw [gated_at]
  pointwise
  rw [hz]
  rfl

include hz in
theorem half1_at (p : Fin 1024) : half1 (F := Ideal) h (ix2 r p) = gelu (z D r.val (2304 + p.val)) := by
  unfold half1
  rw [gated_at]
  pointwise
  rw [hz]

include hz in
theorem dev_at (p : Fin 1024) : centred (F := Ideal) (half1 (F := Ideal) h) (ix2 r p) = dev D r.val p.val := by
  have e := half1_at h D r hz
  generalize half1 (F := Ideal) h = y at e ⊢
  pointwise [centred]
  simp only [e]
  rfl

include hz in
theorem vs_at (a b : FVec Ideal S1024 .f32) (ha : ∀ l : Fin 1024, a (ix1 l) = D.lg 0 l.val) (hb : ∀ l : Fin 1024, b (ix1 l) = D.lb 0 l.val) (p : Fin 1024) :
    scaled (F := Ideal) (centred (F := Ideal) (half1 (F := Ideal) h)) a b (ix2 r p) = vs D r.val p.val := by
  have e := dev_at h D r hz
  generalize centred (F := Ideal) (half1 (F := Ideal) h) = y at e ⊢
  pointwise [scaled]
  simp only [e, ha, hb]
  rfl

end

theorem res_u (c : Dev nD) : res_main_v60 m c = half0 (F := Ideal) (theZ m c) := rfl

theorem res_vs (c : Dev nD) : res_main_v96 m c = scaled (F := Ideal) (centred (F := Ideal) (half1 (F := Ideal) (theZ m c)))
    (m ((c.tc : Thread nD τ).loc main_arg5)) (m ((c.tc : Thread nD τ).loc main_arg6)) := rfl

end Cert.ProjRefIdeal.Value
-- ==== Proof.ProjClaim.lean ====
module

public import proofs.«01_k».proof.Defs
public import proofs.«01_k».proof.Proof.Gen.ProjIdeal.Frame
public import proofs.«01_k».proof.Proof.ProjValue
public import proofs.«01_k».proof.Proof.ProjRef

/-! The input projection's call against its reference: the five results agree over the extended reals. -/

@[expose] public section

set_option maxRecDepth 16384

noncomputable section

namespace Cert.ProjClaim

open Idealize.ShloMosaic Idealize.ShloMosaic.TcCoe Idealize.SL.Sem

theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

theorem value : Cert.algebraic_ProjIdeal_ProjRefIdeal (hProjIdeal := Cert.ProjIdeal.Gen.facts) (hProjRefIdeal := Cert.ProjRefIdeal.Gen.facts) := by
  intro m g m' g' _ hagree
  refine ⟨fun c => (Cert.ProjIdeal.Gen.dats m 0 c).arrAt 7 Cert.ProjIdeal.cfg0.N, fun c => (Cert.ProjIdeal.Gen.dats m 0 c).arrAt 8 Cert.ProjIdeal.cfg0.N,
    fun c => (Cert.ProjIdeal.Gen.dats m 0 c).arrAt 9 Cert.ProjIdeal.cfg0.N, fun c => (Cert.ProjIdeal.Gen.dats m 0 c).arrAt 10 Cert.ProjIdeal.cfg0.N,
    fun c => (Cert.ProjIdeal.Gen.dats m 0 c).arrAt 11 Cert.ProjIdeal.cfg0.N, Cert.ProjIdeal.Value.run_blocks m g, ?_⟩
  refine (θ_run Cert.ProjRefIdeal.defs _ _).mono (fun r h c => ?_) (Cert.ProjRefIdeal.Value.run (F := Ideal) m' g')
  obtain ⟨r0, r1, r2, r3, r4, k⟩ := h c
  obtain ⟨h0, h1, h2, h3, h4, h5, h6⟩ := hagree c
  have ht : Cert.ProjRefIdeal.Value.tabs m' c = Cert.ProjIdeal.Value.tabs m c := by
    unfold Cert.ProjRefIdeal.Value.tabs Cert.ProjIdeal.Value.tabs
    rw [h0, h1, h2, h3, h4, h5, h6]
  have hz := Cert.ProjRefIdeal.Value.prod_at m' c
  have e3 : ∀ l : Fin 64, m' ((c.tc : Thread _ _).loc Cert.ProjRefIdeal.main_arg3) (ix1 l) = (Cert.ProjRefIdeal.Value.tabs m' c).gq 0 l.val := fun l => by
    simp [Cert.ProjRefIdeal.Value.tabs, ProjSpec.Data.of, FfnSpec.tab]
  have e4 : ∀ l : Fin 64, m' ((c.tc : Thread _ _).loc Cert.ProjRefIdeal.main_arg4) (ix1 l) = (Cert.ProjRefIdeal.Value.tabs m' c).gk 0 l.val := fun l => by
    simp [Cert.ProjRefIdeal.Value.tabs, ProjSpec.Data.of, FfnSpec.tab]
  have e5 : ∀ l : Fin 1024, m' ((c.tc : Thread _ _).loc Cert.ProjRefIdeal.main_arg5) (ix1 l) = (Cert.ProjRefIdeal.Value.tabs m' c).lg 0 l.val := fun l => by
    simp [Cert.ProjRefIdeal.Value.tabs, ProjSpec.Data.of, FfnSpec.tab]
  have e6 : ∀ l : Fin 1024, m' ((c.tc : Thread _ _).loc Cert.ProjRefIdeal.main_arg6) (ix1 l) = (Cert.ProjRefIdeal.Value.tabs m' c).lb 0 l.val := fun l => by
    simp [Cert.ProjRefIdeal.Value.tabs, ProjSpec.Data.of, FfnSpec.tab]
  refine ⟨r0.trans (Eq.trans ?_ (Cert.ProjIdeal.Value.final7 m c).symm), r1.trans (Eq.trans ?_ (Cert.ProjIdeal.Value.final8 m c).symm),
    r2.trans (Eq.trans ?_ (Cert.ProjIdeal.Value.final9 m c).symm), r3.trans (Eq.trans ?_ (Cert.ProjIdeal.Value.final10 m c).symm),
    r4.trans (Eq.trans ?_ (Cert.ProjIdeal.Value.final11 m c).symm), k⟩
  · funext i
    idx_vars i
    exact (Cert.ProjRefIdeal.Value.q_at _ _ i0 (hz i0) _ e3 i1).trans (by rw [ht])
  · funext i
    idx_vars i
    exact (Cert.ProjRefIdeal.Value.k_at _ _ i0 (hz i0) _ e4 i1).trans (by rw [ht])
  · funext i
    idx_vars i
    exact (Cert.ProjRefIdeal.Value.v_at _ _ i0 (hz i0) i1).trans (by rw [ht])
  · rw [Cert.ProjRefIdeal.Value.res_u]
    funext i
    idx_vars i
    exact (Cert.ProjRefIdeal.Value.u_at _ _ i0 (hz i0) i1).trans (by rw [ht])
  · rw [Cert.ProjRefIdeal.Value.res_vs]
    funext i
    idx_vars i
    exact (Cert.ProjRefIdeal.Value.vs_at _ _ i0 (hz i0) _ _ e5 e6 i1).trans (by rw [ht])

end Cert.ProjClaim
-- ==== Proof.OutValue.lean ====
module

public import proofs.«01_k».proof.Proof.Gen.OutIdeal.Value
public import proofs.«01_k».proof.Proof.Gen.OutRefIdeal.Run
public import Idealize.ShloMosaic.Lib.Pointwise
public import Idealize.ShloMosaic.Lib.Pipeline.ValueKit.Point
public import Idealize.ShloMosaic.Lib.StableHlo.ReadAt

/-! The output projection: what the call leaves in its result, and what its reference computes, index by index. -/

@[expose] public section

set_option maxRecDepth 16384

noncomputable section

namespace Cert.OutSpec

open Idealize.ShloMosaic

/-- A row's residual plus its product with the weights. -/
def out (x : Fin 16384 → Fin 2048 → EReal) (a : Fin 16384 → Fin 2048 → EReal) (w : Fin 2048 → Fin 2048 → EReal) (r : Fin 16384) (l : Fin 2048) : EReal :=
  x r l + ∑ k : Fin 2048, a r k * w k l

end Cert.OutSpec

namespace Cert.OutIdeal.Value

open Cert.OutIdeal Cert.OutIdeal.Gen Idealize.ShloMosaic Idealize.ShloMosaic.TcCoe Idealize.SL.Sem

variable (m : (ℓ : Loc nD τ sig) → Buf (Elt Ideal) ℓ)

/-- The layer's rows after the projection, of the launch's arguments. -/
def goal (c : Dev nD) (r : Fin 16384) (l : Fin 2048) : EReal :=
  OutSpec.out (fun r k => m (c, Proc.tc.devRef main_arg0) (ix2 r k)) (fun r k => m (c, Proc.tc.devRef main_arg1) (ix2 r k))
    (fun k l => m (c, Proc.tc.devRef main_arg2) (ix2 k l)) r l

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)

theorem lt0 (t : Fin cfg0.N) : t.val < 32 := lt_of_lt_of_eq t.isLt (by decide)

theorem blk0 (c : Dev nD) (t : Fin cfg0.N) (r : Fin 512) (k : Fin 2048) (h : t.val * 512 + r.val < 16384) :
    iblk m c 0 t (ix2 r k) = m (c, Proc.tc.devRef main_arg0) (ix2 ⟨t.val * 512 + r.val, h⟩ k) := by
  blk_ext [iblk, at0 t]

theorem blk1 (c : Dev nD) (t : Fin cfg0.N) (r : Fin 512) (k : Fin 2048) (h : t.val * 512 + r.val < 16384) :
    iblk m c 1 t (ix2 r k) = m (c, Proc.tc.devRef main_arg1) (ix2 ⟨t.val * 512 + r.val, h⟩ k) := by
  blk_ext [iblk, at1 t]

theorem host_w (c : Dev nD) (k l : Fin 2048) : V m c main_v0 (ix2 k l) = m (c, Proc.tc.devRef main_arg2) (ix2 k l) := by
  unfold V
  simp only [hostOps0]
  after_reads_at

theorem blk2 (c : Dev nD) (t : Fin cfg0.N) (k l : Fin 2048) : iblk m c 2 t (ix2 k l) = m (c, Proc.tc.devRef main_arg2) (ix2 k l) := by
  rw [← host_w m c k l]
  blk_ext [iblk, at2 t]

/-- The call's result array. -/
theorem final (c : Dev nD) : (dats m 0 c).arrAt 3 cfg0.N = fun i : S16384x2048.Idx => goal m c (i 0) (i 1) := by
  refine (dats m 0 c).arrAt_eq_of_covers 3 _ (by decide +kernel) fun t hf y => ?_
  have ht := lt0 t
  blk_simp
  rw [after0_3]
  frame_out
  idx_vars y
  have he : ((View.whole main_v1).slice (win0_3.rect t)).emb (ix2 y0 y1) = (ix2 (⟨t.val * 512 + y0.val, by omega⟩ : Fin 16384) y1 : S16384x2048.Idx) := by
    blk_ext [at3 t]
  rw [he]
  pointwise [k0_pay1]
  rw [blk0 m c t y0 y1 (by omega)]
  simp only [blk1 m c t y0 _ (show t.val * 512 + y0.val < 16384 by omega), blk2]
  rfl

end Cert.OutIdeal.Value

namespace Cert.OutRefIdeal.Value

open Cert.OutRefIdeal Cert.OutRefIdeal.Gen Idealize.ShloMosaic Idealize.ShloMosaic.TcCoe Idealize.SL.Sem Idealize.ShloMosaic.StableHlo

theorem res_at (x : FVec Ideal S16384x2048 .f32) (a : FVec Ideal S16384x2048 .bf16) (w : FVec Ideal S2048x2048 .f32) (r : Fin 16384) (l : Fin 2048) :
    addf (F := Ideal) x (Host.dotGeneral (F := Ideal) dot_S16384x2048_S2048x2048_S16384x2048_1_0_0_1_n_n none (extf .f32 a bitsLt_bf16_f32) w) (ix2 r l)
      = OutSpec.out (fun r k => x (ix2 r k)) (fun r k => a (ix2 r k)) (fun k l => w (ix2 k l)) r l := by
  pointwise
  rfl

end Cert.OutRefIdeal.Value
-- ==== Proof.OutClaim.lean ====
module

public import proofs.«01_k».proof.Defs
public import proofs.«01_k».proof.Proof.Gen.OutIdeal.Frame
public import proofs.«01_k».proof.Proof.OutValue

/-! The output projection's call against its reference: the result agrees over the extended reals. -/

@[expose] public section

set_option maxRecDepth 16384

noncomputable section

namespace Cert.OutClaim

open Idealize.ShloMosaic Idealize.ShloMosaic.TcCoe Idealize.SL.Sem

theorem frame_ref : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem value : Cert.algebraic_OutIdeal_OutRefIdeal (hOutIdeal := Cert.OutIdeal.Gen.facts) (hOutRefIdeal := Cert.OutRefIdeal.Gen.facts) := by
  intro m g m' g' _ hagree
  refine ⟨fun c => (Cert.OutIdeal.Gen.dats m 0 c).arrAt 3 Cert.OutIdeal.cfg0.N, Cert.OutIdeal.Value.run_blocks m g, ?_⟩
  refine (θ_run Cert.OutRefIdeal.defs _ _).mono (fun r h c => ?_) (Cert.OutRefIdeal.Value.run (F := Ideal) m' g')
  obtain ⟨r0, k⟩ := h c
  obtain ⟨h0, h1, h2⟩ := hagree c
  refine ⟨r0.trans (Eq.trans ?_ (Cert.OutIdeal.Value.final m c).symm), k⟩
  funext i
  idx_vars i
  refine (Cert.OutRefIdeal.Value.res_at _ _ _ _ _).trans ?_
  rw [h0, h1, h2]
  rfl

end Cert.OutClaim
-- ==== Proof.FfnSBody.lean ====
module

public import proofs.«01_k».proof.Proof.Gen.FfnSIdeal.Value
public import Idealize.ShloMosaic.Lib.Pipeline.ValueKit
public import Idealize.ShloMosaic.Lib.Pipeline.ReadBack
public import Idealize.ShloMosaic.Lib.Pointwise

/-! What one grid point of the decoding step's feed-forward call leaves in its outputs and in the normalized rows it
    carries, as functions of the point's blocks: the values are read at an index, over the extended reals. -/

@[expose] public section

set_option maxRecDepth 16384
set_option maxHeartbeats 4000000

noncomputable section

namespace Cert.FfnSIdeal.Value

open Cert.FfnSIdeal Cert.FfnSIdeal.Gen Idealize.ShloMosaic Idealize.ShloMosaic.TcCoe Idealize.SL.Sem

variable (m : (ℓ : Loc nD τ sig) → Buf (Elt Ideal) ℓ)

/-- The normalized rows the call carries, after point `t`. -/
def rows (c : Dev nD) (t : Fin cfg0.N) : Vec Ideal S512x2048 .bf16 := (outsAt0 m c t.val t.isLt).2.2.2

/-- One half of the up-projection. -/
def up (S : Vec Ideal S512x2048 .bf16) (W : Vec Ideal S2048x512 .bf16) (r q : Fin 512) : EReal :=
  ∑ k : Fin 2048, S (ix2 r k) * W (ix2 k q)

/-- What tap `a` of the convolution reads at row `r`: the state's two positions come first. -/
def tap (S : Vec Ideal S512x2048 .bf16) (W : Vec Ideal S2048x512 .bf16) (s : Vec Ideal S2x128x512 .f32) (r : Fin 512) (a : Fin 3) (q : Fin 512) : EReal :=
  if h : r.val + 128 * a.val < 256 then s (ix3 ⟨(r.val + 128 * a.val) / 128, by omega⟩ ⟨(r.val + 128 * a.val) % 128, by omega⟩ q)
  else up S W ⟨r.val + 128 * a.val - 256, by omega⟩ q

/-- One half of the convolved rows. -/
def conv (S : Vec Ideal S512x2048 .bf16) (W : Vec Ideal S2048x512 .bf16) (s : Vec Ideal S2x128x512 .f32) (w : Vec Ideal S3x512 .f32)
    (b : Vec Ideal S1x512 .f32) (r q : Fin 512) : EReal :=
  b (ix2 0 q) + w (ix2 0 q) * tap S W s r 0 q + w (ix2 1 q) * tap S W s r 1 q + w (ix2 2 q) * tap S W s r 2 q

/-- The point's block of the gated activation. -/
def gated (c : Dev nD) (t : Fin cfg0.N) (S : Vec Ideal S512x2048 .bf16) (r q : Fin 512) : EReal :=
  conv S (iblk m c 3 t) (iblk m c 10 t) (iblk m c 5 t) (iblk m c 7 t) r q
    * Ideal.logistic (conv S (iblk m c 3 t) (iblk m c 10 t) (iblk m c 5 t) (iblk m c 7 t) r q)
    * conv S (iblk m c 2 t) (iblk m c 9 t) (iblk m c 4 t) (iblk m c 6 t) r q

/-- What the point adds to the result's block. -/
def part (c : Dev nD) (t : Fin cfg0.N) (S : Vec Ideal S512x2048 .bf16) (r : Fin 512) (l : Fin 2048) : EReal :=
  ∑ q : Fin 512, gated m c t S r q * (iblk m c 8 t : Vec Ideal S512x2048 .bf16) (ix2 q l)

theorem tap_state (S : Vec Ideal S512x2048 .bf16) (W : Vec Ideal S2048x512 .bf16) (s : Vec Ideal S2x128x512 .f32) (r : Fin 512) (a : Fin 3) (q : Fin 512)
    (k : Fin 2) (b : ℕ) (hb : b < 128) (n o : ℕ) (ha : a.val = n) (ho : k.val = o) (h : r.val + 128 * n = o * 128 + b) :
    tap S W s r a q = s (ix3 k ⟨b, hb⟩ q) := by
  subst ha ho
  unfold tap
  rw [dif_pos (by omega)]
  have e1 : (⟨(r.val + 128 * a.val) / 128, by omega⟩ : Fin 2) = k := Fin.ext (by show (r.val + 128 * a.val) / 128 = k.val; omega)
  have e2 : (⟨(r.val + 128 * a.val) % 128, by omega⟩ : Fin 128) = ⟨b, hb⟩ := Fin.ext (by show (r.val + 128 * a.val) % 128 = b; omega)
  rw [e1, e2]

theorem tap_up (S : Vec Ideal S512x2048 .bf16) (W : Vec Ideal S2048x512 .bf16) (s : Vec Ideal S2x128x512 .f32) (r : Fin 512) (a : Fin 3) (q : Fin 512)
    (R : ℕ) (hR : R < 512) (n : ℕ) (ha : a.val = n) (h : r.val + 128 * n = 256 + R) :
    tap S W s r a q = ∑ k : Fin 2048, S (ix2 ⟨R, hR⟩ k) * W (ix2 k q) := by
  subst ha
  unfold tap up
  rw [dif_neg (by omega)]
  have e : (⟨r.val + 128 * a.val - 256, by omega⟩ : Fin 512) = ⟨R, hR⟩ := Fin.ext (by show r.val + 128 * a.val - 256 = R; omega)
  rw [e]

attribute [local irreducible] tap

/-- The four positions' blocks of 128 rows, one below the other, are the convolved rows. -/
theorem convA (S : Vec Ideal S512x2048 .bf16) (W : Vec Ideal S2048x512 .bf16) (s : Vec Ideal S2x128x512 .f32) (w : Vec Ideal S3x512 .f32)
    (b : Vec Ideal S1x512 .f32) (r q : Fin 512) :
    k0_pay17 (k0_pay8 S W) (k0_pay9 S W) (k0_pay10 S W)
        (k0_pay13 (k0_pay7 S W)
          (k0_pay11 (View.ld s (Rect.unit ![0, 0, 0] ![1, 128, 512] inb_S2x128x512_S1x128x512_0_0_0))
            (View.ld s (Rect.unit ![1, 0, 0] ![1, 128, 512] inb_S2x128x512_S1x128x512_1_0_0))
            b (View.ld w (Rect.unit ![0, 0] ![1, 512] inb_S3x512_S1x512_0_0))
            (View.ld w (Rect.unit ![1, 0] ![1, 512] inb_S3x512_S1x512_1_0)))
          (k0_pay12 (View.ld w (Rect.unit ![2, 0] ![1, 512] inb_S3x512_S1x512_2_0))))
        (k0_pay14
          (k0_pay6 (View.ld s (Rect.unit ![1, 0, 0] ![1, 128, 512] inb_S2x128x512_S1x128x512_1_0_0)))
          (k0_pay7 S W) (k0_pay8 S W) b
          (View.ld w (Rect.unit ![0, 0] ![1, 512] inb_S3x512_S1x512_0_0))
          (View.ld w (Rect.unit ![1, 0] ![1, 512] inb_S3x512_S1x512_1_0))
          (View.ld w (Rect.unit ![2, 0] ![1, 512] inb_S3x512_S1x512_2_0)))
        (k0_pay15 (k0_pay7 S W) (k0_pay8 S W) (k0_pay9 S W) b
          (View.ld w (Rect.unit ![0, 0] ![1, 512] inb_S3x512_S1x512_0_0))
          (View.ld w (Rect.unit ![1, 0] ![1, 512] inb_S3x512_S1x512_1_0))
          (View.ld w (Rect.unit ![2, 0] ![1, 512] inb_S3x512_S1x512_2_0)))
        (k0_pay16 b) (View.ld w (Rect.unit ![0, 0] ![1, 512] inb_S3x512_S1x512_0_0))
        (View.ld w (Rect.unit ![1, 0] ![1, 512] inb_S3x512_S1x512_1_0))
        (View.ld w (Rect.unit ![2, 0] ![1, 512] inb_S3x512_S1x512_2_0)) (ix2 r q) = conv S W s w b r q := by
  generalize hG : conv S W s w b r q = G
  pointwise [k0_pay17, k0_pay8, k0_pay9, k0_pay10, k0_pay13, k0_pay7, k0_pay11, k0_pay12, k0_pay14, k0_pay6, k0_pay15, k0_pay16, k0_pay4]
  rw [← hG]
  by_cases h1 : r.val < 128
  · simp only [dif_pos h1]
    rw [conv, tap_state _ _ _ r 0 q 0 (r.val) (by omega) 0 0 rfl rfl (by omega),
      tap_state _ _ _ r 1 q 1 (r.val) (by omega) 1 1 rfl rfl (by omega),
      tap_up _ _ _ r 2 q r.val r.isLt 2 rfl (by omega)]
  · by_cases h2 : r.val - 128 < 128
    · simp only [dif_neg h1, dif_pos h2]
      rw [conv, tap_state _ _ _ r 0 q 1 (r.val - 128) (by omega) 0 1 rfl rfl (by omega),
        tap_up _ _ _ r 1 q (r.val - 128) (by omega) 1 rfl (by omega),
        tap_up _ _ _ r 2 q (128 + (r.val - 128)) (by omega) 2 rfl (by omega)]
    · by_cases h3 : r.val - 128 - 128 < 128
      · simp only [dif_neg h1, dif_neg h2, dif_pos h3]
        rw [conv, tap_up _ _ _ r 0 q (r.val - 128 - 128) (by omega) 0 rfl (by omega),
          tap_up _ _ _ r 1 q (128 + (r.val - 128 - 128)) (by omega) 1 rfl (by omega),
          tap_up _ _ _ r 2 q (256 + (r.val - 128 - 128)) (by omega) 2 rfl (by omega)]
      · simp only [dif_neg h1, dif_neg h2, dif_neg h3]
        rw [conv, tap_up _ _ _ r 0 q (128 + (r.val - 128 - 128 - 128)) (by omega) 0 rfl (by omega),
          tap_up _ _ _ r 1 q (256 + (r.val - 128 - 128 - 128)) (by omega) 1 rfl (by omega),
          tap_up _ _ _ r 2 q (384 + (r.val - 128 - 128 - 128)) (by omega) 2 rfl (by omega)]

/-- The gate on the convolved rows and the projection down, added to what the block held. -/
theorem gate (V : FVec Ideal S512x512 .f32) (A : Fin 512 → EReal) (r : Fin 512) (hv : ∀ q, V (ix2 r q) = A q)
    (S : Vec Ideal S512x2048 .bf16) (W : Vec Ideal S2048x512 .bf16) (s : Vec Ideal S2x128x512 .f32) (w : Vec Ideal S3x512 .f32)
    (b : Vec Ideal S1x512 .f32) (y : Vec Ideal S512x2048 .f32) (d : Vec Ideal S512x2048 .bf16) (l : Fin 2048) :
    k0_pay29 V (k0_pay20 (k0_pay5 S W)) (k0_pay21 (k0_pay5 S W)) (k0_pay22 (k0_pay5 S W))
      (k0_pay25
        (k0_pay23 (View.ld s (Rect.unit ![0, 0, 0] ![1, 128, 512] inb_S2x128x512_S1x128x512_0_0_0))
          (View.ld s (Rect.unit ![1, 0, 0] ![1, 128, 512] inb_S2x128x512_S1x128x512_1_0_0)) b
          (View.ld w (Rect.unit ![0, 0] ![1, 512] inb_S3x512_S1x512_0_0))
          (View.ld w (Rect.unit ![1, 0] ![1, 512] inb_S3x512_S1x512_1_0)))
        (k0_pay24 (k0_pay5 S W) (View.ld w (Rect.unit ![2, 0] ![1, 512] inb_S3x512_S1x512_2_0))))
      (k0_pay26
        (k0_pay18 (View.ld s (Rect.unit ![1, 0, 0] ![1, 128, 512] inb_S2x128x512_S1x128x512_1_0_0)))
        (k0_pay19 (k0_pay5 S W)) (k0_pay20 (k0_pay5 S W)) b
        (View.ld w (Rect.unit ![0, 0] ![1, 512] inb_S3x512_S1x512_0_0))
        (View.ld w (Rect.unit ![1, 0] ![1, 512] inb_S3x512_S1x512_1_0))
        (View.ld w (Rect.unit ![2, 0] ![1, 512] inb_S3x512_S1x512_2_0)))
      (k0_pay27 (k0_pay19 (k0_pay5 S W)) (k0_pay20 (k0_pay5 S W)) (k0_pay21 (k0_pay5 S W)) b
        (View.ld w (Rect.unit ![0, 0] ![1, 512] inb_S3x512_S1x512_0_0))
        (View.ld w (Rect.unit ![1, 0] ![1, 512] inb_S3x512_S1x512_1_0))
        (View.ld w (Rect.unit ![2, 0] ![1, 512] inb_S3x512_S1x512_2_0)))
      (k0_pay28 b) (View.ld w (Rect.unit ![0, 0] ![1, 512] inb_S3x512_S1x512_0_0))
      (View.ld w (Rect.unit ![1, 0] ![1, 512] inb_S3x512_S1x512_1_0))
      (View.ld w (Rect.unit ![2, 0] ![1, 512] inb_S3x512_S1x512_2_0)) y d (ix2 r l)
      = y (ix2 r l) + ∑ q : Fin 512, conv S W s w b r q * Ideal.logistic (conv S W s w b r q) * A q * d (ix2 q l) := by
  generalize hG : (fun q => conv S W s w b r q) = G
  have hg : ∀ q, conv S W s w b r q = G q := fun q => congrFun hG q
  simp only [hg]
  pointwise [k0_pay29, k0_pay20, k0_pay21, k0_pay22, k0_pay25, k0_pay23, k0_pay24, k0_pay26, k0_pay18, k0_pay19, k0_pay27, k0_pay28, k0_pay5]
  simp only [hv]
  by_cases h1 : r.val < 128
  · simp only [dif_pos h1]
    refine congrArg _ (Finset.sum_congr rfl fun q _ => ?_)
    rw [← hg, conv, tap_state _ _ _ r 0 q 0 (r.val) (by omega) 0 0 rfl rfl (by omega),
      tap_state _ _ _ r 1 q 1 (r.val) (by omega) 1 1 rfl rfl (by omega),
      tap_up _ _ _ r 2 q r.val r.isLt 2 rfl (by omega)]
  · by_cases h2 : r.val - 128 < 128
    · simp only [dif_neg h1, dif_pos h2]
      refine congrArg _ (Finset.sum_congr rfl fun q _ => ?_)
      rw [← hg, conv, tap_state _ _ _ r 0 q 1 (r.val - 128) (by omega) 0 1 rfl rfl (by omega),
        tap_up _ _ _ r 1 q (r.val - 128) (by omega) 1 rfl (by omega),
        tap_up _ _ _ r 2 q (128 + (r.val - 128)) (by omega) 2 rfl (by omega)]
    · by_cases h3 : r.val - 128 - 128 < 128
      · simp only [dif_neg h1, dif_neg h2, dif_pos h3]
        refine congrArg _ (Finset.sum_congr rfl fun q _ => ?_)
        rw [← hg, conv, tap_up _ _ _ r 0 q (r.val - 128 - 128) (by omega) 0 rfl (by omega),
          tap_up _ _ _ r 1 q (128 + (r.val - 128 - 128)) (by omega) 1 rfl (by omega),
          tap_up _ _ _ r 2 q (256 + (r.val - 128 - 128)) (by omega) 2 rfl (by omega)]
      · simp only [dif_neg h1, dif_neg h2, dif_neg h3]
        refine congrArg _ (Finset.sum_congr rfl fun q _ => ?_)
        rw [← hg, conv, tap_up _ _ _ r 0 q (128 + (r.val - 128 - 128 - 128)) (by omega) 0 rfl (by omega),
          tap_up _ _ _ r 1 q (256 + (r.val - 128 - 128 - 128)) (by omega) 1 rfl (by omega),
          tap_up _ _ _ r 2 q (384 + (r.val - 128 - 128 - 128)) (by omega) 2 rfl (by omega)]

theorem last_a (S : Vec Ideal S512x2048 .bf16) (W : Vec Ideal S2048x512 .bf16)  (k : Fin 2) (b : Fin 128) (q : Fin 512) :
  View.canon (Val := Elt Ideal) (e := .f32)
      [⟨Rect.unit ![1, 0, 0] ![1, 128, 512] inb_S2x128x512_S1x128x512_1_0_0,
          k0_pay1 (k0_pay32 (k0_pay4 S W))⟩,
        ⟨Rect.unit ![0, 0, 0] ![1, 128, 512] inb_S2x128x512_S1x128x512_0_0_0,
          k0_pay30 (k0_pay4 S W)⟩]
      (ix3 k b q) =
    up S W ⟨256 + k.val * 128 + b.val, by omega⟩ q := by
  by_cases hk : k.val = 1
  · have hi : (ix3 k b q : S2x128x512.Idx) = (Rect.unit ![1, 0, 0] ![1, 128, 512] inb_S2x128x512_S1x128x512_1_0_0).emb (ix3 (0 : Fin 1) b q) := by
      funext a; apply Fin.ext; revert a; refine Fin.forall_fin_succ.2 ⟨?_, Fin.forall_fin_two.2 ⟨?_, ?_⟩⟩
      · show k.val = 1 + 1 * 0; omega
      · show b.val = 0 + 1 * b.val; omega
      · show q.val = 0 + 1 * q.val; omega
    rw [hi, View.canon_cons_emb]
    pointwise [k0_pay1, k0_pay32, k0_pay4]
    unfold up
    refine Finset.sum_congr rfl fun x _ => ?_
    congr 3
    apply Fin.ext
    show 384 + b.val = 256 + k.val * 128 + b.val
    omega
  · have hi : (ix3 k b q : S2x128x512.Idx) = (Rect.unit ![0, 0, 0] ![1, 128, 512] inb_S2x128x512_S1x128x512_0_0_0).emb (ix3 (0 : Fin 1) b q) := by
      funext a; apply Fin.ext; revert a; refine Fin.forall_fin_succ.2 ⟨?_, Fin.forall_fin_two.2 ⟨?_, ?_⟩⟩
      · show k.val = 0 + 1 * 0; omega
      · show b.val = 0 + 1 * b.val; omega
      · show q.val = 0 + 1 * q.val; omega
    rw [View.canon_cons_of_not_mem, hi, View.canon_cons_emb]
    · pointwise [k0_pay30, k0_pay4]
      unfold up
      refine Finset.sum_congr rfl fun x _ => ?_
      congr 3
      apply Fin.ext
      show 256 + b.val = 256 + k.val * 128 + b.val
      omega
    · rw [Rect.mem_set_unit]
      intro hc
      have := (hc 0).1
      simp at this
      omega

theorem last_g (S : Vec Ideal S512x2048 .bf16) (W : Vec Ideal S2048x512 .bf16)  (k : Fin 2) (b : Fin 128) (q : Fin 512) :
  View.canon (Val := Elt Ideal) (e := .f32)
      [⟨Rect.unit ![1, 0, 0] ![1, 128, 512] inb_S2x128x512_S1x128x512_1_0_0,
          k0_pay2 (k0_pay5 S W)⟩,
        ⟨Rect.unit ![0, 0, 0] ![1, 128, 512] inb_S2x128x512_S1x128x512_0_0_0,
          k0_pay31 (k0_pay5 S W)⟩]
      (ix3 k b q) =
    up S W ⟨256 + k.val * 128 + b.val, by omega⟩ q := by
  by_cases hk : k.val = 1
  · have hi : (ix3 k b q : S2x128x512.Idx) = (Rect.unit ![1, 0, 0] ![1, 128, 512] inb_S2x128x512_S1x128x512_1_0_0).emb (ix3 (0 : Fin 1) b q) := by
      funext a; apply Fin.ext; revert a; refine Fin.forall_fin_succ.2 ⟨?_, Fin.forall_fin_two.2 ⟨?_, ?_⟩⟩
      · show k.val = 1 + 1 * 0; omega
      · show b.val = 0 + 1 * b.val; omega
      · show q.val = 0 + 1 * q.val; omega
    rw [hi, View.canon_cons_emb]
    pointwise [k0_pay2, k0_pay5]
    unfold up
    refine Finset.sum_congr rfl fun x _ => ?_
    congr 3
    apply Fin.ext
    show 384 + b.val = 256 + k.val * 128 + b.val
    omega
  · have hi : (ix3 k b q : S2x128x512.Idx) = (Rect.unit ![0, 0, 0] ![1, 128, 512] inb_S2x128x512_S1x128x512_0_0_0).emb (ix3 (0 : Fin 1) b q) := by
      funext a; apply Fin.ext; revert a; refine Fin.forall_fin_succ.2 ⟨?_, Fin.forall_fin_two.2 ⟨?_, ?_⟩⟩
      · show k.val = 0 + 1 * 0; omega
      · show b.val = 0 + 1 * b.val; omega
      · show q.val = 0 + 1 * q.val; omega
    rw [View.canon_cons_of_not_mem, hi, View.canon_cons_emb]
    · pointwise [k0_pay31, k0_pay5]
      unfold up
      refine Finset.sum_congr rfl fun x _ => ?_
      congr 3
      apply Fin.ext
      show 256 + b.val = 256 + k.val * 128 + b.val
      omega
    · rw [Rect.mem_set_unit]
      intro hc
      have := (hc 0).1
      simp at this
      omega

theorem rows_B (c : Dev nD) (t : Fin cfg0.N) (h : ¬t.val % 11 = 0) :
    rows m c t = (outsAt0 m c (t.val - 1) (Nat.lt_of_le_of_lt (Nat.sub_le _ _) t.isLt)).2.2.2 := by
  rw [rows, outsAt0_B m c t h]; rfl

theorem rows_A (c : Dev nD) (t : Fin cfg0.N) (h : t.val % 11 = 0) :
    rows m c t = k0_pay3 (iblk m c 0 t) (iblk m c 1 t) := by
  rw [rows, outsAt0_A m c t h]; frame_out

theorem y_B (c : Dev nD) (t : Fin cfg0.N) (h : ¬t.val % 11 = 0) (r : Fin 512) (l : Fin 2048) :
    (outsAt0 m c t.val t.isLt).1 (ix2 r l)
      = (outsAt0 m c (t.val - 1) (Nat.lt_of_le_of_lt (Nat.sub_le _ _) t.isLt)).1 (ix2 r l) + part m c t (rows m c t) r l := by
  rw [rows_B m c t h, outsAt0_B m c t h]; frame_open
  simp (disch := decide) only [↓ View.readCov_skip, ↓ View.readCov_cons_toLoadRect, ↓ View.readCov_fill]
  frame_out
  simp only [read_unread_whole]
  rw [gate (hv := fun q => convA _ _ _ _ _ r q)]
  rfl

theorem y_A (c : Dev nD) (t : Fin cfg0.N) (h : t.val % 11 = 0) (r : Fin 512) (l : Fin 2048) :
    (outsAt0 m c t.val t.isLt).1 (ix2 r l) = (show EReal from iblk m c 0 t (ix2 r l)) + part m c t (rows m c t) r l := by
  rw [rows_A m c t h, outsAt0_A m c t h]; frame_open
  simp (disch := decide) only [↓ View.readCov_skip, ↓ View.readCov_cons_toLoadRect, ↓ View.readCov_fill]
  frame_out
  rw [gate (hv := fun q => convA _ _ _ _ _ r q)]
  rfl

theorem sa (c : Dev nD) (t : Fin cfg0.N) (k : Fin 2) (b : Fin 128) (q : Fin 512) :
    (outsAt0 m c t.val t.isLt).2.1 (ix3 k b q) = up (rows m c t) (iblk m c 2 t) ⟨256 + k.val * 128 + b.val, by omega⟩ q := by
  by_cases h : t.val % 11 = 0
  · rw [rows_A m c t h, outsAt0_A m c t h]; frame_open
    simp (disch := decide) only [↓ View.readCov_skip, ↓ View.readCov_cons_toLoadRect, ↓ View.readCov_fill]
    frame_out
    exact last_a _ _ k b q
  · rw [rows_B m c t h, outsAt0_B m c t h]; frame_open
    simp (disch := decide) only [↓ View.readCov_skip, ↓ View.readCov_cons_toLoadRect, ↓ View.readCov_fill]
    frame_out
    simp only [read_unread_whole]
    exact last_a _ _ k b q

theorem sg (c : Dev nD) (t : Fin cfg0.N) (k : Fin 2) (b : Fin 128) (q : Fin 512) :
    (outsAt0 m c t.val t.isLt).2.2.1 (ix3 k b q) = up (rows m c t) (iblk m c 3 t) ⟨256 + k.val * 128 + b.val, by omega⟩ q := by
  by_cases h : t.val % 11 = 0
  · rw [rows_A m c t h, outsAt0_A m c t h]; frame_open
    simp (disch := decide) only [↓ View.readCov_skip, ↓ View.readCov_cons_toLoadRect, ↓ View.readCov_fill]
    frame_out
    exact last_g _ _ k b q
  · rw [rows_B m c t h, outsAt0_B m c t h]; frame_open
    simp (disch := decide) only [↓ View.readCov_skip, ↓ View.readCov_cons_toLoadRect, ↓ View.readCov_fill]
    frame_out
    simp only [read_unread_whole]
    exact last_g _ _ k b q

end Cert.FfnSIdeal.Value
-- ==== Proof.FfnSHost.lean ====
module

public import proofs.«01_k».proof.Proof.FfnSBody
public import proofs.«01_k».proof.Proof.FfnSpec
public import Idealize.ShloMosaic.Lib.StableHlo.ReadAt

/-! The arrays the decoding step's feed-forward call reads: the padded halves of the weights, read at an index, and the block of each
    that a grid point sees. -/

@[expose] public section

set_option maxRecDepth 100000

noncomputable section

namespace Cert.FfnSIdeal.Value

open Cert.FfnSIdeal Cert.FfnSIdeal.Gen Idealize.ShloMosaic Idealize.ShloMosaic.TcCoe Idealize.SL.Sem Cert.FfnSpec

variable (m : (ℓ : Loc nD τ sig) → Buf (Elt Ideal) ℓ)

/-- The layer's tables at the launch's arguments. -/
def tabs (c : Dev nD) : Data := Data.ofS (fun r k => m (c, Proc.tc.devRef main_arg0) (ix2 r k)) (fun k => m (c, Proc.tc.devRef main_arg1) (ix1 k))
  (fun k p => m (c, Proc.tc.devRef main_arg2) (ix2 k p)) (fun a p => m (c, Proc.tc.devRef main_arg3) (ix2 a p))
  (fun p => m (c, Proc.tc.devRef main_arg4) (ix1 p)) (fun p l => m (c, Proc.tc.devRef main_arg5) (ix2 p l))

/-- The state's first half of columns, its two positions one below the other. -/
def sl (c : Dev nD) : ℕ → ℕ → EReal := tab fun (r : Fin 256) (p : Fin 5504) =>
  m (c, Proc.tc.devRef main_arg6) (ix3 (⟨r.val % 128, by omega⟩ : Fin 128) (⟨r.val / 128, by omega⟩ : Fin 2) ⟨p.val, by omega⟩)

/-- The state's second half of columns. -/
def sh (c : Dev nD) : ℕ → ℕ → EReal := tab fun (r : Fin 256) (p : Fin 5504) =>
  m (c, Proc.tc.devRef main_arg6) (ix3 (⟨r.val % 128, by omega⟩ : Fin 128) (⟨r.val / 128, by omega⟩ : Fin 2) ⟨5504 + p.val, by omega⟩)

theorem zero_int : (FloatOps.sitofp (F := Ideal) FTy.f32 (0#32) : EReal) = 0 := by
  show (((0#32 : BitVec 32).toInt : ℝ) : EReal) = 0
  simp

theorem host_u (c : Dev nD) (k : Fin 2048) (p : Fin 11264) :
    V m c main_v5 (ix2 k p) = if p.val < 5632 then (tabs m c).wl k.val p.val else (tabs m c).wh k.val (p.val - 5632) := by
  generalize hR : (if p.val < 5632 then (tabs m c).wl k.val p.val else (tabs m c).wh k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  set_option maxRecDepth 100000 in
  after_reads_at
  rw [← hR]
  simp only [tabs, Data.ofS, tab, zero_int, k.isLt, true_and, Fin.eta]
  by_cases hp : p.val < 5632
  · rw [dif_pos hp, if_pos hp]
  · rw [dif_neg hp, if_neg hp]

theorem host_w (c : Dev nD) (k : Fin 3) (p : Fin 11264) :
    V m c main_v12 (ix2 k p) = if p.val < 5632 then (tabs m c).cl k.val p.val else (tabs m c).ch k.val (p.val - 5632) := by
  generalize hR : (if p.val < 5632 then (tabs m c).cl k.val p.val else (tabs m c).ch k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  rw [← hR]
  simp only [tabs, Data.ofS, tab, zero_int, k.isLt, true_and, Fin.eta]
  by_cases hp : p.val < 5632
  · simp only [hp, dif_pos, if_pos]
  · simp only [hp, dif_neg, if_neg, not_false_iff]

theorem host_b (c : Dev nD) (k : Fin 1) (p : Fin 11264) :
    V m c main_v18 (ix2 k p) = if p.val < 5632 then (tabs m c).bl k.val p.val else (tabs m c).bh k.val (p.val - 5632) := by
  generalize hR : (if p.val < 5632 then (tabs m c).bl k.val p.val else (tabs m c).bh k.val (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  set_option maxRecDepth 100000 in
  after_reads_at
  rw [← hR]
  simp only [tabs, Data.ofS, tab, zero_int, k.isLt, true_and, Fin.eta]
  by_cases hp : p.val < 5632
  · rw [dif_pos hp, if_pos hp]
  · rw [dif_neg hp, if_neg hp]

theorem host_d (c : Dev nD) (p : Fin 5632) (l : Fin 2048) : V m c main_v7 (ix2 p l) = (tabs m c).d p.val l.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  simp only [tabs, Data.ofS, tab, zero_int, l.isLt, and_true]

theorem host_g (c : Dev nD) (k : Fin 2048) : V m c main_v25 (ix2 0 k) = (tabs m c).g 0 k.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  simp [tabs, Data.ofS, tab]

theorem host_x (c : Dev nD) (r : Fin 512) (k : Fin 2048) : V m c main_arg0 (ix2 r k) = (tabs m c).x r.val k.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  simp [tabs, Data.ofS, tab]

theorem host_s (c : Dev nD) (k : Fin 2) (b : Fin 128) (p : Fin 11264) :
    V m c main_v24 (ix3 k b p) = if p.val < 5632 then sl m c (k.val * 128 + b.val) p.val else sh m c (k.val * 128 + b.val) (p.val - 5632) := by
  generalize hR : (if p.val < 5632 then sl m c (k.val * 128 + b.val) p.val else sh m c (k.val * 128 + b.val) (p.val - 5632)) = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_at
  rw [← hR]
  have e1 : (k.val * 128 + b.val) % 128 = b.val := by omega
  have e2 : (k.val * 128 + b.val) / 128 = k.val := by omega
  have e3 : k.val * 128 + b.val < 256 := by omega
  simp only [sl, sh, tab, zero_int, e1, e2, e3, true_and, Fin.eta]
  by_cases hp : p.val < 5632
  · simp only [hp, dif_pos, if_pos]
  · simp only [hp, dif_neg, if_neg, not_false_iff]

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, t.val % 11] := (by decide +kernel : ∀ t : Fin grid0.N, _)
theorem at3 : ∀ t : Fin cfg0.N, win0_3.index t = ![0, t.val % 11 + 11] := (by decide +kernel : ∀ t : Fin grid0.N, _)
theorem at4 : ∀ t : Fin cfg0.N, win0_4.index t = ![0, t.val % 11] := (by decide +kernel : ∀ t : Fin grid0.N, _)
theorem at5 : ∀ t : Fin cfg0.N, win0_5.index t = ![0, t.val % 11 + 11] := (by decide +kernel : ∀ t : Fin grid0.N, _)
theorem at6 : ∀ t : Fin cfg0.N, win0_6.index t = ![0, t.val % 11] := (by decide +kernel : ∀ t : Fin grid0.N, _)
theorem at7 : ∀ t : Fin cfg0.N, win0_7.index t = ![0, t.val % 11 + 11] := (by decide +kernel : ∀ t : Fin grid0.N, _)
theorem at8 : ∀ t : Fin cfg0.N, win0_8.index t = ![t.val % 11, 0] := (by decide +kernel : ∀ t : Fin grid0.N, _)
theorem at9 : ∀ t : Fin cfg0.N, win0_9.index t = ![0, 0, t.val % 11] := (by decide +kernel : ∀ t : Fin grid0.N, _)
theorem at10 : ∀ t : Fin cfg0.N, win0_10.index t = ![0, 0, t.val % 11 + 11] := (by decide +kernel : ∀ t : Fin grid0.N, _)

theorem lt0 (t : Fin cfg0.N) : t.val < 11 := lt_of_lt_of_eq t.isLt N_0

theorem blk0 (c : Dev nD) (t : Fin cfg0.N) (r : Fin 512) (k : Fin 2048) :
    iblk m c 0 t (ix2 r k) = (tabs m c).x r.val k.val := by
  have h := lt0 t
  rw [← host_x m c r k]
  blk_ext [iblk, at0 t]

theorem blk1 (c : Dev nD) (t : Fin cfg0.N) (k : Fin 2048) : iblk m c 1 t (ix2 0 k) = (tabs m c).g 0 k.val := by
  rw [← host_g m c k]
  blk_ext [iblk, at1 t]

theorem blk2 (c : Dev nD) (t : Fin cfg0.N) (k : Fin 2048) (q : Fin 512) :
    iblk m c 2 t (ix2 k q) = (tabs m c).wl k.val (t.val % 11 * 512 + q.val) := by
  have h := lt0 t
  have e := host_u m c k ⟨t.val % 11 * 512 + q.val, by omega⟩
  rw [if_pos (by show t.val % 11 * 512 + q.val < 5632; omega)] at e
  rw [← e]
  blk_ext [iblk, at2 t]

theorem blk3 (c : Dev nD) (t : Fin cfg0.N) (k : Fin 2048) (q : Fin 512) :
    iblk m c 3 t (ix2 k q) = (tabs m c).wh k.val (t.val % 11 * 512 + q.val) := by
  have h := lt0 t
  have e := host_u m c k ⟨(t.val % 11 + 11) * 512 + q.val, by omega⟩
  rw [if_neg (by show ¬(t.val % 11 + 11) * 512 + q.val < 5632; omega)] at e
  rw [show (t.val % 11 + 11) * 512 + q.val - 5632 = t.val % 11 * 512 + q.val by omega] at e
  rw [← e]
  blk_ext [iblk, at3 t]

theorem blk4 (c : Dev nD) (t : Fin cfg0.N) (k : Fin 3) (q : Fin 512) :
    iblk m c 4 t (ix2 k q) = (tabs m c).cl k.val (t.val % 11 * 512 + q.val) := by
  have h := lt0 t
  have e := host_w m c k ⟨t.val % 11 * 512 + q.val, by omega⟩
  rw [if_pos (by show t.val % 11 * 512 + q.val < 5632; omega)] at e
  rw [← e]
  blk_ext [iblk, at4 t]

theorem blk5 (c : Dev nD) (t : Fin cfg0.N) (k : Fin 3) (q : Fin 512) :
    iblk m c 5 t (ix2 k q) = (tabs m c).ch k.val (t.val % 11 * 512 + q.val) := by
  have h := lt0 t
  have e := host_w m c k ⟨(t.val % 11 + 11) * 512 + q.val, by omega⟩
  rw [if_neg (by show ¬(t.val % 11 + 11) * 512 + q.val < 5632; omega)] at e
  rw [show (t.val % 11 + 11) * 512 + q.val - 5632 = t.val % 11 * 512 + q.val by omega] at e
  rw [← e]
  blk_ext [iblk, at5 t]

theorem blk6 (c : Dev nD) (t : Fin cfg0.N) (q : Fin 512) : iblk m c 6 t (ix2 0 q) = (tabs m c).bl 0 (t.val % 11 * 512 + q.val) := by
  have h := lt0 t
  have e := host_b m c 0 ⟨t.val % 11 * 512 + q.val, by omega⟩
  rw [if_pos (by show t.val % 11 * 512 + q.val < 5632; omega)] at e
  refine Eq.trans ?_ e
  blk_ext [iblk, at6 t]

theorem blk7 (c : Dev nD) (t : Fin cfg0.N) (q : Fin 512) : iblk m c 7 t (ix2 0 q) = (tabs m c).bh 0 (t.val % 11 * 512 + q.val) := by
  have h := lt0 t
  have e := host_b m c 0 ⟨(t.val % 11 + 11) * 512 + q.val, by omega⟩
  rw [if_neg (by show ¬(t.val % 11 + 11) * 512 + q.val < 5632; omega)] at e
  rw [show (t.val % 11 + 11) * 512 + q.val - 5632 = t.val % 11 * 512 + q.val by omega] at e
  refine Eq.trans ?_ e
  blk_ext [iblk, at7 t]

theorem blk8 (c : Dev nD) (t : Fin cfg0.N) (q : Fin 512) (l : Fin 2048) :
    iblk m c 8 t (ix2 q l) = (tabs m c).d (t.val % 11 * 512 + q.val) l.val := by
  have h := lt0 t
  rw [← host_d m c ⟨t.val % 11 * 512 + q.val, by omega⟩ l]
  blk_ext [iblk, at8 t]

theorem blk9 (c : Dev nD) (t : Fin cfg0.N) (k : Fin 2) (b : Fin 128) (q : Fin 512) :
    iblk m c 9 t (ix3 k b q) = sl m c (k.val * 128 + b.val) (t.val % 11 * 512 + q.val) := by
  have h := lt0 t
  have e := host_s m c k b ⟨t.val % 11 * 512 + q.val, by omega⟩
  rw [if_pos (by show t.val % 11 * 512 + q.val < 5632; omega)] at e
  rw [← e]
  blk_ext [iblk, at9 t]

theorem blk10 (c : Dev nD) (t : Fin cfg0.N) (k : Fin 2) (b : Fin 128) (q : Fin 512) :
    iblk m c 10 t (ix3 k b q) = sh m c (k.val * 128 + b.val) (t.val % 11 * 512 + q.val) := by
  have h := lt0 t
  have e := host_s m c k b ⟨(t.val % 11 + 11) * 512 + q.val, by omega⟩
  rw [if_neg (by show ¬(t.val % 11 + 11) * 512 + q.val < 5632; omega)] at e
  rw [show (t.val % 11 + 11) * 512 + q.val - 5632 = t.val % 11 * 512 + q.val by omega] at e
  rw [← e]
  blk_ext [iblk, at10 t]

end Cert.FfnSIdeal.Value
-- ==== Proof.FfnSPoint.lean ====
module

public import proofs.«01_k».proof.Proof.FfnSHost

/-! The outputs of the decoding step's feed-forward call after every grid point, in terms of the layer's tables. -/

@[expose] public section

set_option maxRecDepth 16384

noncomputable section

namespace Cert.FfnSIdeal.Value

open Cert.FfnSIdeal Cert.FfnSIdeal.Gen Idealize.ShloMosaic Idealize.ShloMosaic.TcCoe Idealize.SL.Sem Cert.FfnSpec

variable (m : (ℓ : Loc nD τ sig) → Buf (Elt Ideal) ℓ)

theorem rows_first (c : Dev nD) (t : Fin cfg0.N) (h : t.val % 11 = 0) (r : Fin 512) (k : Fin 2048) :
    rows m c t (ix2 r k) = nrm (tabs m c) r.val k.val := by
  rw [rows_A m c t h]
  pointwise [k0_pay3]
  simp only [blk0, blk1]
  unfold nrm
  rfl

theorem rows_at (c : Dev nD) (n : ℕ) : ∀ (hn : n < cfg0.N) (r : Fin 512) (k : Fin 2048),
    rows m c ⟨n, hn⟩ (ix2 r k) = nrm (tabs m c) r.val k.val := by
  induction n with
  | zero => intro hn r k; exact rows_first m c ⟨0, hn⟩ rfl r k
  | succ n ih =>
    intro hn r k
    by_cases h : (n + 1) % 11 = 0
    · exact rows_first m c ⟨n + 1, hn⟩ h r k
    · have e := ih (by omega) r k
      rw [rows_B m c ⟨n + 1, hn⟩ h, ← e]
      rfl

theorem up_at (c : Dev nD) (t : Fin cfg0.N) (w : ℕ → ℕ → EReal) (W : Vec Ideal S2048x512 .bf16)
    (hW : ∀ k q, W (ix2 k q) = w k.val (t.val % 11 * 512 + q.val)) (r q : Fin 512) :
    Value.up (rows m c t) W r q = FfnSpec.up (tabs m c) w r.val (t.val % 11 * 512 + q.val) := by
  unfold Value.up FfnSpec.up
  have e : ∀ k, rows m c t (ix2 r k) = nrm (tabs m c) r.val k.val := fun k => rows_at m c t.val t.isLt r k
  simp only [e, hW]

theorem tap_at (c : Dev nD) (t : Fin cfg0.N) (w s : ℕ → ℕ → EReal) (W : Vec Ideal S2048x512 .bf16) (B : Vec Ideal S2x128x512 .f32)
    (hW : ∀ k q, W (ix2 k q) = w k.val (t.val % 11 * 512 + q.val))
    (hs : ∀ k b q, B (ix3 k b q) = s (k.val * 128 + b.val) (t.val % 11 * 512 + q.val)) (r q : Fin 512) (a : Fin 3) :
    Value.tap (rows m c t) W B r a q = tapS (tabs m c) w s r.val a.val (t.val % 11 * 512 + q.val) := by
  unfold Value.tap tapS
  by_cases h : r.val + 128 * a.val < 256
  · rw [dif_pos h, if_pos h, hs]
    show s ((r.val + 128 * a.val) / 128 * 128 + (r.val + 128 * a.val) % 128) _ = _
    rw [show (r.val + 128 * a.val) / 128 * 128 + (r.val + 128 * a.val) % 128 = r.val + 128 * a.val by omega]
  · rw [dif_neg h, if_neg h, up_at m c t w W hW]

theorem conv_at (c : Dev nD) (t : Fin cfg0.N) (w s cw b : ℕ → ℕ → EReal) (W : Vec Ideal S2048x512 .bf16) (S : Vec Ideal S2x128x512 .f32)
    (C : Vec Ideal S3x512 .f32) (B : Vec Ideal S1x512 .f32)
    (hW : ∀ k q, W (ix2 k q) = w k.val (t.val % 11 * 512 + q.val))
    (hs : ∀ k b q, S (ix3 k b q) = s (k.val * 128 + b.val) (t.val % 11 * 512 + q.val))
    (hC : ∀ k q, C (ix2 k q) = cw k.val (t.val % 11 * 512 + q.val))
    (hB : ∀ q, B (ix2 0 q) = b 0 (t.val % 11 * 512 + q.val)) (r q : Fin 512) :
    Value.conv (rows m c t) W S C B r q = convS (tabs m c) w s cw b r.val (t.val % 11 * 512 + q.val) := by
  unfold Value.conv convS
  simp only [hB, hC, tap_at m c t w s W S hW hs]
  rfl

theorem part_at (c : Dev nD) (t : Fin cfg0.N) (r : Fin 512) (l : Fin 2048) :
    part m c t (rows m c t) r l = ∑ q : Fin 512, actS (tabs m c) (sl m c) (sh m c) r.val (t.val % 11 * 512 + q.val)
      * (tabs m c).d (t.val % 11 * 512 + q.val) l.val := by
  unfold part gated actS
  refine Finset.sum_congr rfl fun q _ => ?_
  rw [conv_at m c t _ _ _ _ _ _ _ _ (blk3 m c t) (blk10 m c t) (blk5 m c t) (blk7 m c t),
    conv_at m c t _ _ _ _ _ _ _ _ (blk2 m c t) (blk9 m c t) (blk4 m c t) (blk6 m c t), blk8]

/-- The result's block after a point: the row's residual and the activation's columns so far, projected down. -/
theorem y_at (c : Dev nD) (n : ℕ) : ∀ (hn : n < cfg0.N) (r : Fin 512) (l : Fin 2048),
    (outsAt0 m c n hn).1 (ix2 r l) = (tabs m c).x r.val l.val
      + ∑ s ∈ Finset.range (n % 11 + 1), ∑ q : Fin 512, actS (tabs m c) (sl m c) (sh m c) r.val (s * 512 + q.val) * (tabs m c).d (s * 512 + q.val) l.val := by
  have first : ∀ (t : Fin cfg0.N) (h : t.val % 11 = 0) (r : Fin 512) (l : Fin 2048), (outsAt0 m c t.val t.isLt).1 (ix2 r l)
      = (tabs m c).x r.val l.val
      + ∑ s ∈ Finset.range (t.val % 11 + 1), ∑ q : Fin 512, actS (tabs m c) (sl m c) (sh m c) r.val (s * 512 + q.val) * (tabs m c).d (s * 512 + q.val) l.val := by
    intro t h r l
    rw [y_A m c t h, part_at, blk0, h]
    simp only [zero_add, Finset.sum_range_one]
  induction n with
  | zero => intro hn r l; exact first ⟨0, hn⟩ rfl r l
  | succ n ih =>
    intro hn r l
    by_cases h : (n + 1) % 11 = 0
    · exact first ⟨n + 1, hn⟩ h r l
    · have e := ih (by omega) r l
      have y := y_B m c ⟨n + 1, hn⟩ h r l
      rw [part_at] at y
      refine y.trans ?_
      show (outsAt0 m c n _).1 (ix2 r l) + _ = _
      rw [e]
      show _ + (∑ q : Fin 512, actS (tabs m c) (sl m c) (sh m c) r.val ((n + 1) % 11 * 512 + q.val) * (tabs m c).d ((n + 1) % 11 * 512 + q.val) l.val) = _
      rw [show (n + 1) % 11 = n % 11 + 1 by omega, Finset.sum_range_succ _ (n % 11 + 1), add_assoc]

theorem y_last (c : Dev nD) (n : ℕ) (hn : n < cfg0.N) (h : n % 11 = 10) (r : Fin 512) (l : Fin 2048) :
    (outsAt0 m c n hn).1 (ix2 r l) = outS (tabs m c) (sl m c) (sh m c) r.val l.val := by
  rw [y_at, h, outS, sum_pad (fun p => actS (tabs m c) (sl m c) (sh m c) r.val p) (fun p => (tabs m c).d p l.val)]
  intro p hp
  simp [tabs, Data.ofS, tab, Nat.not_lt.2 hp]

theorem sa_at (c : Dev nD) (t : Fin cfg0.N) (k : Fin 2) (b : Fin 128) (q : Fin 512) :
    (outsAt0 m c t.val t.isLt).2.1 (ix3 k b q) = FfnSpec.up (tabs m c) (tabs m c).wl (256 + k.val * 128 + b.val) (t.val % 11 * 512 + q.val) := by
  rw [sa, up_at m c t _ _ (blk2 m c t)]

theorem sg_at (c : Dev nD) (t : Fin cfg0.N) (k : Fin 2) (b : Fin 128) (q : Fin 512) :
    (outsAt0 m c t.val t.isLt).2.2.1 (ix3 k b q) = FfnSpec.up (tabs m c) (tabs m c).wh (256 + k.val * 128 + b.val) (t.val % 11 * 512 + q.val) := by
  rw [sg, up_at m c t _ _ (blk3 m c t)]

/-- The call's result array. -/
theorem final_y (c : Dev nD) (r : Fin 512) (l : Fin 2048) : (dats m 0 c).arrAt 11 cfg0.N (ix2 r l) = outS (tabs m c) (sl m c) (sh m c) r.val l.val := by
  rw [final11]
  have hp : pt11Of (ix2 r l) = 10 := by
    show 11 * (1 * (r.val / 512 - 0) + 1 * (l.val / 2048 - 0)) + 10 = _
    omega
  have hN : pt11Of (ix2 r l) < cfg0.N := lt_of_lt_of_eq (by omega) N_0.symm
  unfold G11
  rw [dif_pos hN, ← outsAt0_sweep m c _ hN]
  have hl : loc11Of (ix2 r l) = ix2 r l := by
    funext a; apply Fin.ext; revert a; refine Fin.forall_fin_two.2 ⟨?_, ?_⟩
    · show r.val % 512 = r.val; omega
    · show l.val % 2048 = l.val; omega
  rw [hl, y_last m c _ hN (by omega)]

theorem final_sa (c : Dev nD) (k : Fin 2) (b : Fin 128) (p : Fin 5632) :
    (dats m 0 c).arrAt 12 cfg0.N (ix3 k b p) = FfnSpec.up (tabs m c) (tabs m c).wl (256 + k.val * 128 + b.val) p.val := by
  rw [final12]
  have hp : pt12Of (ix3 k b p) = p.val / 512 := by
    show 11 * (k.val / 2 - 0) + 11 * (b.val / 128 - 0) + 1 * (p.val / 512 - 0) = _
    omega
  have hN : pt12Of (ix3 k b p) < cfg0.N := lt_of_lt_of_eq (by omega) N_0.symm
  unfold G12
  rw [dif_pos hN, ← outsAt0_sweep m c _ hN]
  have hl : loc12Of (ix3 k b p) = ix3 k b (⟨p.val % 512, by omega⟩ : Fin 512) := by
    funext a; apply Fin.ext; revert a; refine Fin.forall_fin_succ.2 ⟨?_, Fin.forall_fin_two.2 ⟨?_, rfl⟩⟩
    · show k.val % 2 = k.val; omega
    · show b.val % 128 = b.val; omega
  rw [hl, sa_at m c ⟨_, hN⟩]
  show FfnSpec.up _ _ _ (pt12Of (ix3 k b p) % 11 * 512 + p.val % 512) = _
  congr 1; omega

theorem final_sg (c : Dev nD) (k : Fin 2) (b : Fin 128) (p : Fin 5632) :
    (dats m 0 c).arrAt 13 cfg0.N (ix3 k b p) = FfnSpec.up (tabs m c) (tabs m c).wh (256 + k.val * 128 + b.val) p.val := by
  rw [final13]
  have hp : pt13Of (ix3 k b p) = p.val / 512 := by
    show 11 * (k.val / 2 - 0) + 11 * (b.val / 128 - 0) + 1 * (p.val / 512 - 0) = _
    omega
  have hN : pt13Of (ix3 k b p) < cfg0.N := lt_of_lt_of_eq (by omega) N_0.symm
  unfold G13
  rw [dif_pos hN, ← outsAt0_sweep m c _ hN]
  have hl : loc13Of (ix3 k b p) = ix3 k b (⟨p.val % 512, by omega⟩ : Fin 512) := by
    funext a; apply Fin.ext; revert a; refine Fin.forall_fin_succ.2 ⟨?_, Fin.forall_fin_two.2 ⟨?_, rfl⟩⟩
    · show k.val % 2 = k.val; omega
    · show b.val % 128 = b.val; omega
  rw [hl, sg_at m c ⟨_, hN⟩]
  show FfnSpec.up _ _ _ (pt13Of (ix3 k b p) % 11 * 512 + p.val % 512) = _
  congr 1; omega

end Cert.FfnSIdeal.Value
-- ==== Proof.FfnSRef.lean ====
module

public import proofs.«01_k».proof.Proof.FfnSpec
public import proofs.«01_k».proof.Proof.Gen.FfnSRefIdeal.Run
public import Idealize.ShloMosaic.Lib.Pointwise

/-! The reference of the decoding step's feed-forward layer, read at an index: it holds the layer's tables' values. -/

@[expose] public section

set_option maxRecDepth 16384

noncomputable section

namespace Cert.FfnSRefIdeal.Value

open Cert.FfnSRefIdeal Cert.FfnSRefIdeal.Gen Idealize.ShloMosaic Idealize.ShloMosaic.TcCoe Idealize.SL.Sem Idealize.ShloMosaic.StableHlo Cert.FfnSpec

section
variable {F : FTy → Type} [FloatOps F]

/-- The up-projected rows of the norm. -/
def hidden (x : FVec F S512x2048 .f32) (g : FVec F S2048 .f32) (u : FVec F S2048x11008 .f32) : FVec F S128x4x11008 .f32 :=
  Host.dotGeneral dot_S128x4x2048_S2048x11008_S128x4x11008_2_0_01_1_n_n none (mulf (mulf (transpose S128x4x2048 [1, 0, 2] (shapeCast _ x shapeCasts_S512x2048_S4x128x2048) transposes_S4x128x2048_S128x4x2048_1_0_2) (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf (transpose S128x4x2048 [1, 0, 2] (shapeCast _ x shapeCasts_S512x2048_S4x128x2048) transposes_S4x128x2048_S128x4x2048_1_0_2) (transpose S128x4x2048 [1, 0, 2] (shapeCast _ x shapeCasts_S512x2048_S4x128x2048) transposes_S4x128x2048_S128x4x2048_1_0_2)) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))) u

/-- The state's two positions before every sequence. -/
def led (s : FVec F S128x2x11008 .f32) (h : FVec F S128x4x11008 .f32) : FVec F S128x6x11008 .f32 :=
  concatenate S128x6x11008 1 [⟨S128x2x11008, s⟩, ⟨S128x4x11008, h⟩] concatenates_S128x2x11008_S128x4x11008_S128x6x11008_d1

/-- The causal convolution of three taps. -/
def mixed (e : FVec F S128x6x11008 .f32) (w : FVec F S3x11008 .f32) (b : FVec F S11008 .f32) : FVec F S128x4x11008 .f32 :=
  addf (addf (addf (broadcastInDim S128x4x11008 ![0, 1, 2] bcast_S1x1x11008_S128x4x11008_0_1_2 (broadcastInDim S1x1x11008 ![2] bcast_S11008_S1x1x11008_2 b)) (mulf (broadcastInDim S128x4x11008 ![0, 1, 2] bcast_S1x1x11008_S128x4x11008_0_1_2 (broadcastInDim S1x1x11008 ![2] bcast_S11008_S1x1x11008_2 (shapeCast _ (extractStridedSlice S1x11008 ![0, 0] w slices_S3x11008_S1x11008_0_0) shapeCasts_S1x11008_S11008))) (extractStridedSlice S128x4x11008 ![0, 0, 0] e slices_S128x6x11008_S128x4x11008_0_0_0))) (mulf (broadcastInDim S128x4x11008 ![0, 1, 2] bcast_S1x1x11008_S128x4x11008_0_1_2 (broadcastInDim S1x1x11008 ![2] bcast_S11008_S1x1x11008_2 (shapeCast _ (extractStridedSlice S1x11008 ![1, 0] w slices_S3x11008_S1x11008_1_0) shapeCasts_S1x11008_S11008))) (extractStridedSlice S128x4x11008 ![0, 1, 0] e slices_S128x6x11008_S128x4x11008_0_1_0))) (mulf (broadcastInDim S128x4x11008 ![0, 1, 2] bcast_S1x1x11008_S128x4x11008_0_1_2 (broadcastInDim S1x1x11008 ![2] bcast_S11008_S1x1x11008_2 (shapeCast _ (extractStridedSlice S1x11008 ![2, 0] w slices_S3x11008_S1x11008_2_0) shapeCasts_S1x11008_S11008))) (extractStridedSlice S128x4x11008 ![0, 2, 0] e slices_S128x6x11008_S128x4x11008_0_2_0))

/-- The gate, the down-projection and the residual. -/
def closed (x : FVec F S512x2048 .f32) (hc : FVec F S128x4x11008 .f32) (d : FVec F S5504x2048 .f32) : FVec F S512x2048 .f32 :=
  shapeCast _ (transpose S4x128x2048 [1, 0, 2] (addf (transpose S128x4x2048 [1, 0, 2] (shapeCast _ x shapeCasts_S512x2048_S4x128x2048) transposes_S4x128x2048_S128x4x2048_1_0_2) (Host.dotGeneral dot_S128x4x5504_S5504x2048_S128x4x2048_2_0_01_1_n_n none (mulf (mulf (extractStridedSlice S128x4x5504 ![0, 0, 5504] hc slices_S128x4x11008_S128x4x5504_0_0_5504) (Host.divf (broadcastInDim S128x4x5504 ![] bcast_S_S128x4x5504 (constant S_ .f32 0x3F800000#32)) (addf (broadcastInDim S128x4x5504 ![] bcast_S_S128x4x5504 (constant S_ .f32 0x3F800000#32)) (Host.exp (Host.negf (extractStridedSlice S128x4x5504 ![0, 0, 5504] hc slices_S128x4x11008_S128x4x5504_0_0_5504)))))) (extractStridedSlice S128x4x5504 ![0, 0, 0] hc slices_S128x4x11008_S128x4x5504_0_0_0)) d)) transposes_S128x4x2048_S4x128x2048_1_0_2) shapeCasts_S4x128x2048_S512x2048

/-- The last two positions, the first half of the columns. -/
def lastA (e : FVec F S128x6x11008 .f32) : FVec F S2x128x5632 .f32 :=
  pad S2x128x5632 ![0, 0, 0] ![0, 0, 128] ![0, 0, 0] (extractStridedSlice S2x128x5504 ![0, 0, 0] (transpose S2x128x11008 [1, 0, 2] (extractStridedSlice S128x2x11008 ![0, 4, 0] e slices_S128x6x11008_S128x2x11008_0_4_0) transposes_S128x2x11008_S2x128x11008_1_0_2) slices_S2x128x11008_S2x128x5504_0_0_0) (sitofp .f32 (constantI S_ 32 0#32)) pads_S2x128x5504_S2x128x5632_000_000_01280 h_S_

/-- The last two positions, the second half of the columns. -/
def lastG (e : FVec F S128x6x11008 .f32) : FVec F S2x128x5632 .f32 :=
  pad S2x128x5632 ![0, 0, 0] ![0, 0, 128] ![0, 0, 0] (extractStridedSlice S2x128x5504 ![0, 0, 5504] (transpose S2x128x11008 [1, 0, 2] (extractStridedSlice S128x2x11008 ![0, 4, 0] e slices_S128x6x11008_S128x2x11008_0_4_0) transposes_S128x2x11008_S2x128x11008_1_0_2) slices_S2x128x11008_S2x128x5504_0_0_5504) (sitofp .f32 (constantI S_ 32 0#32)) pads_S2x128x5504_S2x128x5632_000_000_01280 h_S_

end

variable (m : (ℓ : Loc nD τ sig) → Buf (Elt Ideal) ℓ)

def theX (c : Dev nD) : Vec Ideal S512x2048 .f32 := m ((c.tc : Thread nD τ).loc main_arg0)
def theH (c : Dev nD) : Vec Ideal S128x4x11008 .f32 := hidden (F := Ideal) (theX m c) (m ((c.tc : Thread nD τ).loc main_arg1)) (m ((c.tc : Thread nD τ).loc main_arg2))
def theE (c : Dev nD) : Vec Ideal S128x6x11008 .f32 := led (F := Ideal) (m ((c.tc : Thread nD τ).loc main_arg6)) (theH m c)

theorem res_closed (c : Dev nD) : res_main_v49 m c = closed (F := Ideal) (theX m c) (mixed (F := Ideal) (theE m c) (m ((c.tc : Thread nD τ).loc main_arg3)) (m ((c.tc : Thread nD τ).loc main_arg4))) (m ((c.tc : Thread nD τ).loc main_arg5)) := rfl

/-- The layer's tables at the launch's arguments. -/
def tabs (c : Dev nD) : Data := Data.ofS (fun r k => m ((c.tc : Thread nD τ).loc main_arg0) (ix2 r k)) (fun k => m ((c.tc : Thread nD τ).loc main_arg1) (ix1 k))
  (fun k p => m ((c.tc : Thread nD τ).loc main_arg2) (ix2 k p)) (fun a p => m ((c.tc : Thread nD τ).loc main_arg3) (ix2 a p))
  (fun p => m ((c.tc : Thread nD τ).loc main_arg4) (ix1 p)) (fun p l => m ((c.tc : Thread nD τ).loc main_arg5) (ix2 p l))

/-- The state's first half of columns, its two positions one below the other. -/
def sl (c : Dev nD) : ℕ → ℕ → EReal := tab fun (r : Fin 256) (p : Fin 5504) =>
  m ((c.tc : Thread nD τ).loc main_arg6) (ix3 (⟨r.val % 128, by omega⟩ : Fin 128) (⟨r.val / 128, by omega⟩ : Fin 2) ⟨p.val, by omega⟩)

/-- The state's second half of columns. -/
def sh (c : Dev nD) : ℕ → ℕ → EReal := tab fun (r : Fin 256) (p : Fin 5504) =>
  m ((c.tc : Thread nD τ).loc main_arg6) (ix3 (⟨r.val % 128, by omega⟩ : Fin 128) (⟨r.val / 128, by omega⟩ : Fin 2) ⟨5504 + p.val, by omega⟩)

theorem zero_int : (FloatOps.sitofp (F := Ideal) FTy.f32 (0#32) : EReal) = 0 := by
  show (((0#32 : BitVec 32).toInt : ℝ) : EReal) = 0
  simp

theorem hidden_at (c : Dev nD) (w : ℕ → ℕ → EReal) (p : ℕ) (P : Fin 11008)
    (hw : ∀ k : Fin 2048, m ((c.tc : Thread nD τ).loc main_arg2) (ix2 k P) = w k.val p) (b : Fin 128) (t : Fin 4) :
    theH m c (ix3 b t P) = up (tabs m c) w (t.val * 128 + b.val) p := by
  unfold theH
  pointwise [hidden]
  unfold up nrm
  have ex : ∀ j : Fin 2048, (tabs m c).x (t.val * 128 + b.val) j.val = theX m c (ix2 ⟨t.val * 128 + b.val, by omega⟩ j) :=
    fun j => by simp only [tabs, Data.ofS, theX]; exact tab_in _ _ _ (by omega) j.isLt
  have eg : ∀ j : Fin 2048, (tabs m c).g 0 j.val = m ((c.tc : Thread nD τ).loc main_arg1) (ix1 j) := fun j => by simp [tabs, Data.ofS, tab]
  simp only [ex, eg, ← hw]

theorem led_at (c : Dev nD) (w s : ℕ → ℕ → EReal) (p : ℕ) (P : Fin 11008)
    (hw : ∀ k : Fin 2048, m ((c.tc : Thread nD τ).loc main_arg2) (ix2 k P) = w k.val p)
    (hs : ∀ (b : Fin 128) (k : Fin 2), m ((c.tc : Thread nD τ).loc main_arg6) (ix3 b k P) = s (k.val * 128 + b.val) p)
    (b : Fin 128) (t : Fin 4) (a : ℕ) (ha : a < 3) (h : a + t.val < 6) :
    theE m c (ix3 b ⟨a + t.val, h⟩ P) = tapS (tabs m c) w s (t.val * 128 + b.val) a p := by
  unfold theE
  pointwise [led]
  unfold tapS
  by_cases h2 : a + t.val < 2
  · rw [dif_pos h2, if_pos (by omega), hs]
    show s ((a + t.val) * 128 + b.val) p = _
    rw [show (a + t.val) * 128 + b.val = t.val * 128 + b.val + 128 * a by omega]
  · rw [dif_neg h2, if_neg (show ¬(t.val * 128 + b.val + 128 * a < 256) by omega)]
    refine Eq.trans (hidden_at m c w p P hw b ⟨a + t.val - 2, by omega⟩) ?_
    show up _ _ ((a + t.val - 2) * 128 + b.val) p = _
    rw [show (a + t.val - 2) * 128 + b.val = t.val * 128 + b.val + 128 * a - 256 by omega]

theorem mixed_at (c : Dev nD) (w s cw bs : ℕ → ℕ → EReal) (p : ℕ) (P : Fin 11008)
    (hw : ∀ k : Fin 2048, m ((c.tc : Thread nD τ).loc main_arg2) (ix2 k P) = w k.val p)
    (hs : ∀ (b : Fin 128) (k : Fin 2), m ((c.tc : Thread nD τ).loc main_arg6) (ix3 b k P) = s (k.val * 128 + b.val) p)
    (hc : ∀ a : Fin 3, m ((c.tc : Thread nD τ).loc main_arg3) (ix2 a P) = cw a.val p)
    (hb : m ((c.tc : Thread nD τ).loc main_arg4) (ix1 P) = bs 0 p) (b : Fin 128) (t : Fin 4) :
    mixed (F := Ideal) (theE m c) (m ((c.tc : Thread nD τ).loc main_arg3)) (m ((c.tc : Thread nD τ).loc main_arg4)) (ix3 b t P)
      = convS (tabs m c) w s cw bs (t.val * 128 + b.val) p := by
  generalize hE : theE m c = e
  pointwise [mixed]
  rw [hb, hc, hc, hc, ← hE]
  unfold convS
  rw [← led_at m c w s p P hw hs b t 0 (by omega) (by omega), ← led_at m c w s p P hw hs b t 1 (by omega) (by omega),
    ← led_at m c w s p P hw hs b t 2 (by omega) (by omega)]
  simp only [Nat.zero_add]
  rfl

theorem state_l (c : Dev nD) (q : Fin 5504) (b : Fin 128) (k : Fin 2) :
    m ((c.tc : Thread nD τ).loc main_arg6) (ix3 b k ⟨q.val, by omega⟩) = sl m c (k.val * 128 + b.val) q.val := by
  have e1 : (k.val * 128 + b.val) % 128 = b.val := by omega
  have e2 : (k.val * 128 + b.val) / 128 = k.val := by omega
  have e3 : k.val * 128 + b.val < 256 := by omega
  simp only [sl, tab, e1, e2, e3, q.isLt, and_self, dif_pos, Fin.eta]

theorem state_h (c : Dev nD) (q : Fin 5504) (b : Fin 128) (k : Fin 2) :
    m ((c.tc : Thread nD τ).loc main_arg6) (ix3 b k ⟨5504 + q.val, by omega⟩) = sh m c (k.val * 128 + b.val) q.val := by
  have e1 : (k.val * 128 + b.val) % 128 = b.val := by omega
  have e2 : (k.val * 128 + b.val) / 128 = k.val := by omega
  have e3 : k.val * 128 + b.val < 256 := by omega
  simp only [sh, tab, e1, e2, e3, q.isLt, and_self, dif_pos, Fin.eta]

theorem res_y (c : Dev nD) (r : Fin 512) (l : Fin 2048) : res_main_v49 m c (ix2 r l) = outS (tabs m c) (sl m c) (sh m c) r.val l.val := by
  rw [res_closed]
  have hi : ∀ (b : Fin 128) (t : Fin 4) (q : Fin 5504), mixed (F := Ideal) (theE m c) (m ((c.tc : Thread nD τ).loc main_arg3)) (m ((c.tc : Thread nD τ).loc main_arg4)) (ix3 b t ⟨5504 + q.val, by omega⟩)
      = convS (tabs m c) (tabs m c).wh (sh m c) (tabs m c).ch (tabs m c).bh (t.val * 128 + b.val) q.val := fun b t q =>
    mixed_at m c _ _ _ _ q.val ⟨5504 + q.val, by omega⟩ (fun k => by simp [tabs, Data.ofS, tab]) (state_h m c q) (fun a => by simp [tabs, Data.ofS, tab]) (by simp [tabs, Data.ofS, tab]) b t
  have lo : ∀ (b : Fin 128) (t : Fin 4) (q : Fin 5504), mixed (F := Ideal) (theE m c) (m ((c.tc : Thread nD τ).loc main_arg3)) (m ((c.tc : Thread nD τ).loc main_arg4)) (ix3 b t ⟨q.val, by omega⟩)
      = convS (tabs m c) (tabs m c).wl (sl m c) (tabs m c).cl (tabs m c).bl (t.val * 128 + b.val) q.val := fun b t q =>
    mixed_at m c _ _ _ _ q.val ⟨q.val, by omega⟩ (fun k => by simp [tabs, Data.ofS, tab]) (state_l m c q) (fun a => by simp [tabs, Data.ofS, tab]) (by simp [tabs, Data.ofS, tab]) b t
  generalize mixed (F := Ideal) (theE m c) (m ((c.tc : Thread nD τ).loc main_arg3)) (m ((c.tc : Thread nD τ).loc main_arg4)) = e at hi lo ⊢
  have hr : r.val / 128 * 128 + r.val % 128 = r.val := by omega
  have ex : theX m c (ix2 r l) = (tabs m c).x r.val l.val := by simp [tabs, Data.ofS, tab, theX]
  have ed : ∀ q : Fin 5504, m ((c.tc : Thread nD τ).loc main_arg5) (ix2 q l) = (tabs m c).d q.val l.val := fun q => by simp [tabs, Data.ofS, tab]
  pointwise [closed]
  rw [ex]
  unfold outS actS Ideal.logistic
  simp only [hi, lo, ed, hr]

theorem last_a (c : Dev nD) (k : Fin 2) (b : Fin 128) (p : Fin 5632) :
    lastA (F := Ideal) (theE m c) (ix3 k b p) = up (tabs m c) (tabs m c).wl (256 + k.val * 128 + b.val) p.val := by
  have e := fun (q : Fin 5504) => led_at m c (tabs m c).wl (sl m c) q.val ⟨q.val, by omega⟩ (fun k => by simp [tabs, Data.ofS, tab]) (state_l m c q) b
    ⟨2 + k.val, by omega⟩ 2 (by omega) (by show 2 + (2 + k.val) < 6; omega)
  generalize theE m c = h at e ⊢
  pointwise [lastA]
  by_cases hp : p.val < 5504
  · rw [dif_pos hp]
    have e' := e ⟨p.val, hp⟩
    have hx : (⟨2 + (2 + k.val), by omega⟩ : Fin 6) = ⟨4 + k.val, by omega⟩ := Fin.ext (by show 2 + (2 + k.val) = 4 + k.val; omega)
    simp only [hx] at e'
    refine e'.trans ?_
    unfold tapS
    rw [if_neg (by show ¬((2 + k.val) * 128 + b.val + 128 * 2 < 256); omega)]
    show up _ _ ((2 + k.val) * 128 + b.val + 128 * 2 - 256) p.val = _
    rw [show (2 + k.val) * 128 + b.val + 128 * 2 - 256 = 256 + k.val * 128 + b.val by omega]
  · rw [dif_neg hp, zero_int]
    unfold up
    symm
    refine Finset.sum_eq_zero fun k _ => ?_
    rw [show (tabs m c).wl k.val p.val = 0 by simp [tabs, Data.ofS, tab, hp], mul_zero]

theorem last_g (c : Dev nD) (k : Fin 2) (b : Fin 128) (p : Fin 5632) :
    lastG (F := Ideal) (theE m c) (ix3 k b p) = up (tabs m c) (tabs m c).wh (256 + k.val * 128 + b.val) p.val := by
  have e := fun (q : Fin 5504) => led_at m c (tabs m c).wh (sh m c) q.val ⟨5504 + q.val, by omega⟩ (fun k => by simp [tabs, Data.ofS, tab]) (state_h m c q) b
    ⟨2 + k.val, by omega⟩ 2 (by omega) (by show 2 + (2 + k.val) < 6; omega)
  generalize theE m c = h at e ⊢
  pointwise [lastG]
  by_cases hp : p.val < 5504
  · rw [dif_pos hp]
    have e' := e ⟨p.val, hp⟩
    have hx : (⟨2 + (2 + k.val), by omega⟩ : Fin 6) = ⟨4 + k.val, by omega⟩ := Fin.ext (by show 2 + (2 + k.val) = 4 + k.val; omega)
    simp only [hx] at e'
    refine e'.trans ?_
    unfold tapS
    rw [if_neg (by show ¬((2 + k.val) * 128 + b.val + 128 * 2 < 256); omega)]
    show up _ _ ((2 + k.val) * 128 + b.val + 128 * 2 - 256) p.val = _
    rw [show (2 + k.val) * 128 + b.val + 128 * 2 - 256 = 256 + k.val * 128 + b.val by omega]
  · rw [dif_neg hp, zero_int]
    unfold up
    symm
    refine Finset.sum_eq_zero fun k _ => ?_
    rw [show (tabs m c).wh k.val p.val = 0 by simp [tabs, Data.ofS, tab, hp], mul_zero]

end Cert.FfnSRefIdeal.Value
-- ==== Proof.FfnSClaim.lean ====
module

public import proofs.«01_k».proof.Defs
public import proofs.«01_k».proof.Proof.Gen.FfnSIdeal.Frame
public import proofs.«01_k».proof.Proof.FfnSPoint
public import proofs.«01_k».proof.Proof.FfnSRef

/-! The decoding step's feed-forward call against its reference: the three results agree over the extended reals. -/

@[expose] public section

set_option maxRecDepth 16384

noncomputable section

namespace Cert.FfnSClaim

open Idealize.ShloMosaic Idealize.ShloMosaic.TcCoe Idealize.SL.Sem

theorem frame_ref : Cert.quiescent_FfnSRefIdeal (hFfnSRefIdeal := Cert.FfnSRefIdeal.Gen.facts) := fun m ρ _ =>
  (θ_run Cert.FfnSRefIdeal.defs _ _).mono (fun r h => ⟨fun c => (h c).2.2.2, sem_eq_zero_of_no_sems (by decide) r.2⟩)
    (Cert.FfnSRefIdeal.Value.run (F := Ideal) m ρ)

theorem value : Cert.algebraic_FfnSIdeal_FfnSRefIdeal (hFfnSIdeal := Cert.FfnSIdeal.Gen.facts) (hFfnSRefIdeal := Cert.FfnSRefIdeal.Gen.facts) := by
  intro m g m' g' _ hagree
  have ht : ∀ c : Dev Cert.FfnSIdeal.nD, Cert.FfnSRefIdeal.Value.tabs m' c = Cert.FfnSIdeal.Value.tabs m c := by
    intro c
    obtain ⟨h0, h1, h2, h3, h4, h5, h6⟩ := hagree c
    unfold Cert.FfnSRefIdeal.Value.tabs
    rw [h0, h1, h2, h3, h4, h5]
    rfl
  have hl : ∀ c : Dev Cert.FfnSIdeal.nD, Cert.FfnSRefIdeal.Value.sl m' c = Cert.FfnSIdeal.Value.sl m c := by
    intro c
    obtain ⟨h0, h1, h2, h3, h4, h5, h6⟩ := hagree c
    unfold Cert.FfnSRefIdeal.Value.sl
    rw [h6]
    rfl
  have hh : ∀ c : Dev Cert.FfnSIdeal.nD, Cert.FfnSRefIdeal.Value.sh m' c = Cert.FfnSIdeal.Value.sh m c := by
    intro c
    obtain ⟨h0, h1, h2, h3, h4, h5, h6⟩ := hagree c
    unfold Cert.FfnSRefIdeal.Value.sh
    rw [h6]
    rfl
  refine ⟨fun c => (Cert.FfnSIdeal.Gen.dats m 0 c).arrAt 11 Cert.FfnSIdeal.cfg0.N, fun c => (Cert.FfnSIdeal.Gen.dats m 0 c).arrAt 12 Cert.FfnSIdeal.cfg0.N,
    fun c => (Cert.FfnSIdeal.Gen.dats m 0 c).arrAt 13 Cert.FfnSIdeal.cfg0.N, Cert.FfnSIdeal.Value.run_blocks m g, ?_⟩
  refine (θ_run Cert.FfnSRefIdeal.defs _ _).mono (fun r h c => ?_) (Cert.FfnSRefIdeal.Value.run (F := Ideal) m' g')
  obtain ⟨r0, r1, r2, k⟩ := h c
  refine ⟨r0.trans ?_, r1.trans ?_, r2.trans ?_, k⟩
  · funext i
    idx_vars i
    refine (Cert.FfnSRefIdeal.Value.res_y m' c _ _).trans (Eq.trans ?_ (Cert.FfnSIdeal.Value.final_y m c _ _).symm)
    rw [ht c, hl c, hh c]
  · funext i
    idx_vars i
    exact (Cert.FfnSRefIdeal.Value.last_a m' c _ _ _).trans ((congrArg (fun D => Cert.FfnSpec.up D D.wl _ _) (ht c)).trans (Cert.FfnSIdeal.Value.final_sa m c _ _ _).symm)
  · funext i
    idx_vars i
    exact (Cert.FfnSRefIdeal.Value.last_g m' c _ _ _).trans ((congrArg (fun D => Cert.FfnSpec.up D D.wh _ _) (ht c)).trans (Cert.FfnSIdeal.Value.final_sg m c _ _ _).symm)

end Cert.FfnSClaim
-- ==== Proof.MergeSpec.lean ====
module

public import proofs.«01_k».proof.Proof.FfnSpec

/-! The decoding step's spatial gate and merged head groups over the extended reals, written index by index; rows are
    numbered by position, then by sequence, 128 sequences to a position. -/

@[expose] public section

noncomputable section

namespace Cert.MergeSpec

open Idealize.ShloMosaic Cert.FfnSpec

/-- The arguments as tables: the attention's rows, the gate's two halves, the gate's weights and shifts by head, and the
    two norms' scales. -/
structure Data where
  att : ℕ → ℕ → EReal
  u : ℕ → ℕ → EReal
  vs : ℕ → ℕ → EReal
  w : ℕ → ℕ → ℕ → EReal
  b : ℕ → ℕ → EReal
  ga : ℕ → EReal
  gs : ℕ → EReal

/-- The tables of the seven argument arrays. -/
def Data.of (att u vs : Fin 512 → Fin 1024 → EReal) (w : Fin 8 → Fin 128 → Fin 128 → EReal) (b : Fin 8 → Fin 128 → EReal)
    (ga gs : Fin 1024 → EReal) : Data where
  att := tab att
  u := tab u
  vs := tab vs
  w h t s := if e : h < 8 ∧ t < 128 ∧ s < 128 then w ⟨h, e.1⟩ ⟨t, e.2.1⟩ ⟨s, e.2.2⟩ else 0
  b := tab b
  ga k := tab (fun (_ : Fin 1) k => ga k) 0 k
  gs k := tab (fun (_ : Fin 1) k => gs k) 0 k

theorem w_in (att u vs : Fin 512 → Fin 1024 → EReal) (w : Fin 8 → Fin 128 → Fin 128 → EReal) (b : Fin 8 → Fin 128 → EReal)
    (ga gs : Fin 1024 → EReal) (h t s : ℕ) (hh : h < 8) (ht : t < 128) (hs : s < 128) :
    (Data.of att u vs w b ga gs).w h t s = w ⟨h, hh⟩ ⟨t, ht⟩ ⟨s, hs⟩ := by
  simp [Data.of, hh, ht, hs]

/-- The causal mask, told by a signed comparison of the positions' numbers. -/
theorem mask (t s : Fin 4) (a : EReal) :
    Scalar.select (IntOp.cmpi .sge (IntOp.addi (BitVec.ofNat 32 t.val) 0#32) (BitVec.ofNat 32 s.val)) a 0 = if s.val ≤ t.val then a else 0 := by
  have e : IntOp.cmpi .sge (IntOp.addi (BitVec.ofNat 32 t.val) 0#32) (BitVec.ofNat 32 s.val) = BitVec.ofBool (decide (s.val ≤ t.val)) := by
    revert t s
    decide
  rw [e]
  by_cases h : s.val ≤ t.val <;> simp [h, Scalar.select]

/-- Column `p` of a row's root-mean-square norm. -/
def nrm (z g : ℕ → EReal) (p : ℕ) : EReal :=
  z p * Ideal.rsqrt (Ideal.div (∑ j : Fin 1024, z j.val * z j.val) (Ideal.ofBits FTy.f32 1149239296#32)
    + Ideal.ofBits FTy.f32 897988541#32) * g p

variable (D : Data)

/-- The gate's second half, mixed over the positions up to the row's own, and shifted. -/
def mixed (r p : ℕ) : EReal :=
  (∑ s : Fin 4, D.vs (s.val * 128 + r % 128) p * (if s.val ≤ r / 128 then D.w (p / 128) (r / 128) s.val else 0)) + D.b (p / 128) (r / 128)

/-- The spatial gate. -/
def gate (r p : ℕ) : EReal := D.u r p * mixed D r p

/-- The two head groups, each normalised, side by side. -/
def out (r p : ℕ) : EReal := if p < 1024 then nrm (D.att r) D.ga p else nrm (gate D r) D.gs (p - 1024)

theorem gate0 (r p : ℕ) (h : r < 128) : gate D r p = D.u r p * (D.w (p / 128) 0 0 * D.vs r p + D.b (p / 128) 0) := by
  unfold gate mixed
  rw [Fin.sum_univ_four, show r / 128 = 0 by omega, show r % 128 = r by omega]
  simp [mul_comm]

theorem gate1 (r p : ℕ) (h : r < 128) : gate D (128 + r) p = D.u (128 + r) p * (D.w (p / 128) 1 0 * D.vs r p
    + D.w (p / 128) 1 1 * D.vs (128 + r) p + D.b (p / 128) 1) := by
  unfold gate mixed
  rw [Fin.sum_univ_four, show (128 + r) / 128 = 1 by omega, show (128 + r) % 128 = r by omega]
  simp [mul_comm]

theorem gate2 (r p : ℕ) (h : r < 128) : gate D (256 + r) p = D.u (256 + r) p * (D.w (p / 128) 2 0 * D.vs r p
    + D.w (p / 128) 2 1 * D.vs (128 + r) p + D.w (p / 128) 2 2 * D.vs (256 + r) p + D.b (p / 128) 2) := by
  unfold gate mixed
  rw [Fin.sum_univ_four, show (256 + r) / 128 = 2 by omega, show (256 + r) % 128 = r by omega]
  simp [mul_comm]

theorem gate3 (r p : ℕ) (h : r < 128) : gate D (384 + r) p = D.u (384 + r) p * (D.w (p / 128) 3 0 * D.vs r p
    + D.w (p / 128) 3 1 * D.vs (128 + r) p + D.w (p / 128) 3 2 * D.vs (256 + r) p + D.w (p / 128) 3 3 * D.vs (384 + r) p
    + D.b (p / 128) 3) := by
  unfold gate mixed
  rw [Fin.sum_univ_four, show (384 + r) / 128 = 3 by omega, show (384 + r) % 128 = r by omega]
  simp [mul_comm]

end Cert.MergeSpec
-- ==== Proof.MergePoint.lean ====
module

public import proofs.«01_k».proof.Proof.MergeSpec
public import proofs.«01_k».proof.Proof.Gen.MergeIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

/-! The body of the merging kernel, read at an index: each of its five stores leaves the tables' results. -/

@[expose] public section

set_option maxRecDepth 16384

noncomputable section

namespace Cert.MergeIdeal.Value

open Cert.MergeIdeal Cert.MergeIdeal.Gen Idealize.ShloMosaic Idealize.ShloMosaic.TcCoe Idealize.SL.Sem Cert.MergeSpec

variable (D : Data) (A U S : Vec Ideal S512x1024 .f32) (W : Vec Ideal S16x1024 .f32) (B : Vec Ideal S4x1024 .f32) (P Q : Vec Ideal S1x1024 .f32)
  (hA : ∀ (r : Fin 512) (p : Fin 1024), A (ix2 r p) = D.att r.val p.val)
  (hU : ∀ (r : Fin 512) (p : Fin 1024), U (ix2 r p) = D.u r.val p.val)
  (hS : ∀ (r : Fin 512) (p : Fin 1024), S (ix2 r p) = D.vs r.val p.val)
  (hW : ∀ (i : Fin 16) (p : Fin 1024), W (ix2 i p) = D.w (p.val / 128) (i.val / 4) (i.val % 4))
  (hB : ∀ (i : Fin 4) (p : Fin 1024), B (ix2 i p) = D.b (p.val / 128) i.val)
  (hP : ∀ p : Fin 1024, P (ix2 0 p) = D.ga p.val)
  (hQ : ∀ p : Fin 1024, Q (ix2 0 p) = D.gs p.val)

include hA hP in
/-- The attention's rows, normalised. -/
theorem att_at (r : Fin 512) (p : Fin 1024) : k0_pay2 A P (ix2 r p) = nrm (D.att r.val) D.ga p.val := by
  pointwise [k0_pay2]
  simp only [hA, hP]
  rfl

/-- A block of 128 rows, normalised. -/
theorem norm0 (y : FVec Ideal S128x1024 .f32) (z : ℕ → EReal) (r : Fin 128) (p : Fin 1024) (hy : ∀ p : Fin 1024, y (ix2 r p) = z p.val)
    (g : ℕ → EReal) (hQ : ∀ p : Fin 1024, Q (ix2 0 p) = g p.val) (x : FVec Ideal S128x1024 .f32) (hx : x = mulf y y) :
    k0_pay1 y (k0_pay12 Q) x (ix2 r p) = nrm z g p.val := by
  subst hx
  pointwise [k0_pay1, k0_pay12]
  simp only [hy, hQ]
  rfl

include hU hS hW hB in
theorem gate0_at (r : Fin 128) (p : Fin 1024) : k0_pay3 (View.ld W (Rect.unit ![0, 0] ![1, 1024] inb_S16x1024_S1x1024_0_0)) (View.ld S (Rect.unit ![0, 0] ![128, 1024] inb_S512x1024_S128x1024_0_0)) (View.ld B (Rect.unit ![0, 0] ![1, 1024] inb_S4x1024_S1x1024_0_0)) (View.ld U (Rect.unit ![0, 0] ![128, 1024] inb_S512x1024_S128x1024_0_0)) (ix2 r p) = gate D (r.val) p.val := by
  rw [gate0 D r.val p.val r.isLt]
  pointwise [k0_pay3]
  simp only [hU, hS, hW, hB]
  rfl

include hU hS hW hB in
theorem gate3_at (r : Fin 128) (p : Fin 1024) : k0_pay11 (View.ld W (Rect.unit ![12, 0] ![1, 1024] inb_S16x1024_S1x1024_12_0)) (View.ld S (Rect.unit ![0, 0] ![128, 1024] inb_S512x1024_S128x1024_0_0)) (View.ld W (Rect.unit ![13, 0] ![1, 1024] inb_S16x1024_S1x1024_13_0)) (View.ld S (Rect.unit ![128, 0] ![128, 1024] inb_S512x1024_S128x1024_128_0)) (View.ld W (Rect.unit ![14, 0] ![1, 1024] inb_S16x1024_S1x1024_14_0)) (View.ld S (Rect.unit ![256, 0] ![128, 1024] inb_S512x1024_S128x1024_256_0)) (View.ld W (Rect.unit ![15, 0] ![1, 1024] inb_S16x1024_S1x1024_15_0)) (View.ld S (Rect.unit ![384, 0] ![128, 1024] inb_S512x1024_S128x1024_384_0)) (View.ld B (Rect.unit ![3, 0] ![1, 1024] inb_S4x1024_S1x1024_3_0)) (View.ld U (Rect.unit ![384, 0] ![128, 1024] inb_S512x1024_S128x1024_384_0)) (ix2 r p) = gate D (384 + r.val) p.val := by
  rw [gate3 D r.val p.val r.isLt]
  pointwise [k0_pay11]
  simp only [hU, hS, hW, hB]
  rfl

include hU hS hW hB hQ in
/-- The rows of position 0. -/
theorem piece0 (r : Fin 128) (p : Fin 1024) : k0_pay6 (k0_pay3 (View.ld W (Rect.unit ![0, 0] ![1, 1024] inb_S16x1024_S1x1024_0_0)) (View.ld S (Rect.unit ![0, 0] ![128, 1024] inb_S512x1024_S128x1024_0_0)) (View.ld B (Rect.unit ![0, 0] ![1, 1024] inb_S4x1024_S1x1024_0_0)) (View.ld U (Rect.unit ![0, 0] ![128, 1024] inb_S512x1024_S128x1024_0_0))) (k0_pay4 Q) (k0_pay5 (View.ld W (Rect.unit ![0, 0] ![1, 1024] inb_S16x1024_S1x1024_0_0)) (View.ld S (Rect.unit ![0, 0] ![128, 1024] inb_S512x1024_S128x1024_0_0)) (View.ld B (Rect.unit ![0, 0] ![1, 1024] inb_S4x1024_S1x1024_0_0)) (View.ld U (Rect.unit ![0, 0] ![128, 1024] inb_S512x1024_S128x1024_0_0))) (ix2 r p) = nrm (gate D r.val) D.gs p.val := by
  have e := gate0_at D U S W B hU hS hW hB r
  unfold k0_pay5
  generalize k0_pay3 (View.ld W (Rect.unit ![0, 0] ![1, 1024] inb_S16x1024_S1x1024_0_0)) (View.ld S (Rect.unit ![0, 0] ![128, 1024] inb_S512x1024_S128x1024_0_0)) (View.ld B (Rect.unit ![0, 0] ![1, 1024] inb_S4x1024_S1x1024_0_0)) (View.ld U (Rect.unit ![0, 0] ![128, 1024] inb_S512x1024_S128x1024_0_0)) = y at e ⊢
  pointwise [k0_pay6, k0_pay4]
  simp only [e, hQ]
  rfl

include hU hS hW hB hQ in
/-- The rows of position 1. -/
theorem piece1 (r : Fin 128) (p : Fin 1024) : k0_pay7 (View.ld W (Rect.unit ![4, 0] ![1, 1024] inb_S16x1024_S1x1024_4_0)) (View.ld S (Rect.unit ![0, 0] ![128, 1024] inb_S512x1024_S128x1024_0_0)) (View.ld W (Rect.unit ![5, 0] ![1, 1024] inb_S16x1024_S1x1024_5_0)) (View.ld S (Rect.unit ![128, 0] ![128, 1024] inb_S512x1024_S128x1024_128_0)) (View.ld B (Rect.unit ![1, 0] ![1, 1024] inb_S4x1024_S1x1024_1_0)) (View.ld U (Rect.unit ![128, 0] ![128, 1024] inb_S512x1024_S128x1024_128_0)) Q (ix2 r p) = nrm (gate D (128 + r.val)) D.gs p.val := by
  have e := fun p : Fin 1024 => gate1 D r.val p.val r.isLt
  pointwise [k0_pay7]
  simp only [hU, hS, hW, hB, hQ]
  unfold nrm
  simp only [e]
  rfl

include hU hS hW hB hQ in
/-- The rows of position 2. -/
theorem piece2 (r : Fin 128) (p : Fin 1024) : k0_pay10 (k0_pay8 (View.ld W (Rect.unit ![8, 0] ![1, 1024] inb_S16x1024_S1x1024_8_0)) (View.ld S (Rect.unit ![0, 0] ![128, 1024] inb_S512x1024_S128x1024_0_0)) (View.ld W (Rect.unit ![9, 0] ![1, 1024] inb_S16x1024_S1x1024_9_0)) (View.ld S (Rect.unit ![128, 0] ![128, 1024] inb_S512x1024_S128x1024_128_0)) (View.ld W (Rect.unit ![10, 0] ![1, 1024] inb_S16x1024_S1x1024_10_0)) (View.ld S (Rect.unit ![256, 0] ![128, 1024] inb_S512x1024_S128x1024_256_0)) (View.ld B (Rect.unit ![2, 0] ![1, 1024] inb_S4x1024_S1x1024_2_0)) (View.ld U (Rect.unit ![256, 0] ![128, 1024] inb_S512x1024_S128x1024_256_0))) (k0_pay9 Q) (ix2 r p) = nrm (gate D (256 + r.val)) D.gs p.val := by
  have e := fun p : Fin 1024 => gate2 D r.val p.val r.isLt
  pointwise [k0_pay10, k0_pay8, k0_pay9]
  simp only [hU, hS, hW, hB, hQ]
  unfold nrm
  simp only [e]
  rfl

include hU hS hW hB hQ in
/-- The rows of position 3. -/
theorem piece3 (r : Fin 128) (p : Fin 1024) : k0_pay1 (k0_pay11 (View.ld W (Rect.unit ![12, 0] ![1, 1024] inb_S16x1024_S1x1024_12_0)) (View.ld S (Rect.unit ![0, 0] ![128, 1024] inb_S512x1024_S128x1024_0_0)) (View.ld W (Rect.unit ![13, 0] ![1, 1024] inb_S16x1024_S1x1024_13_0)) (View.ld S (Rect.unit ![128, 0] ![128, 1024] inb_S512x1024_S128x1024_128_0)) (View.ld W (Rect.unit ![14, 0] ![1, 1024] inb_S16x1024_S1x1024_14_0)) (View.ld S (Rect.unit ![256, 0] ![128, 1024] inb_S512x1024_S128x1024_256_0)) (View.ld W (Rect.unit ![15, 0] ![1, 1024] inb_S16x1024_S1x1024_15_0)) (View.ld S (Rect.unit ![384, 0] ![128, 1024] inb_S512x1024_S128x1024_384_0)) (View.ld B (Rect.unit ![3, 0] ![1, 1024] inb_S4x1024_S1x1024_3_0)) (View.ld U (Rect.unit ![384, 0] ![128, 1024] inb_S512x1024_S128x1024_384_0))) (k0_pay12 Q) (k0_pay13 (View.ld W (Rect.unit ![12, 0] ![1, 1024] inb_S16x1024_S1x1024_12_0)) (View.ld S (Rect.unit ![0, 0] ![128, 1024] inb_S512x1024_S128x1024_0_0)) (View.ld W (Rect.unit ![13, 0] ![1, 1024] inb_S16x1024_S1x1024_13_0)) (View.ld S (Rect.unit ![128, 0] ![128, 1024] inb_S512x1024_S128x1024_128_0)) (View.ld W (Rect.unit ![14, 0] ![1, 1024] inb_S16x1024_S1x1024_14_0)) (View.ld S (Rect.unit ![256, 0] ![128, 1024] inb_S512x1024_S128x1024_256_0)) (View.ld W (Rect.unit ![15, 0] ![1, 1024] inb_S16x1024_S1x1024_15_0)) (View.ld S (Rect.unit ![384, 0] ![128, 1024] inb_S512x1024_S128x1024_384_0)) (View.ld B (Rect.unit ![3, 0] ![1, 1024] inb_S4x1024_S1x1024_3_0)) (View.ld U (Rect.unit ![384, 0] ![128, 1024] inb_S512x1024_S128x1024_384_0))) (ix2 r p) = nrm (gate D (384 + r.val)) D.gs p.val :=
  norm0 Q _ _ r p (gate3_at D U S W B hU hS hW hB r) D.gs hQ _ rfl

end Cert.MergeIdeal.Value
-- ==== Proof.MergeValue.lean ====
module

public import proofs.«01_k».proof.Proof.MergePoint

/-! What the merging call leaves in its result: the tables' values, row for row. -/

@[expose] public section

set_option maxRecDepth 16384
set_option maxHeartbeats 1000000

noncomputable section

namespace Cert.MergeIdeal.Value

open Cert.MergeIdeal Cert.MergeIdeal.Gen Idealize.ShloMosaic Idealize.ShloMosaic.TcCoe Idealize.SL.Sem Cert.MergeSpec

variable (m : (ℓ : Loc nD τ sig) → Buf (Elt Ideal) ℓ)

/-- The tables at the launch's arguments. -/
def tabs (c : Dev nD) : Data := Data.of (fun r k => m (c, Proc.tc.devRef main_arg0) (ix2 r k)) (fun r k => m (c, Proc.tc.devRef main_arg1) (ix2 r k))
  (fun r k => m (c, Proc.tc.devRef main_arg2) (ix2 r k)) (fun h t s => m (c, Proc.tc.devRef main_arg3) (ix3 h t s))
  (fun h t => m (c, Proc.tc.devRef main_arg4) (ix2 h t)) (fun k => m (c, Proc.tc.devRef main_arg5) (ix1 k))
  (fun k => m (c, Proc.tc.devRef main_arg6) (ix1 k))

theorem tabs_w (c : Dev nD) (h t s : ℕ) (hh : h < 8) (ht : t < 128) (hs : s < 128) :
    (tabs m c).w h t s = m (c, Proc.tc.devRef main_arg3) (ix3 (⟨h, hh⟩ : Fin 8) (⟨t, ht⟩ : Fin 128) (⟨s, hs⟩ : Fin 128)) :=
  w_in _ _ _ _ _ _ _ h t s hh ht hs

theorem tabs_b (c : Dev nD) (h t : ℕ) (hh : h < 8) (ht : t < 128) :
    (tabs m c).b h t = m (c, Proc.tc.devRef main_arg4) (ix2 (⟨h, hh⟩ : Fin 8) (⟨t, ht⟩ : Fin 128)) :=
  FfnSpec.tab_in (fun (h : Fin 8) (t : Fin 128) => m (c, Proc.tc.devRef main_arg4) (ix2 h t)) h t hh ht

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)

theorem host0 (c : Dev nD) (r : Fin 512) (p : Fin 1024) : V m c main_arg0 (ix2 r p) = (tabs m c).att r.val p.val := by
  unfold V
  simp only [hostOps0]
  after_reads_at
  simp [tabs, Data.of, FfnSpec.tab]

theorem blk0 (c : Dev nD) (t : Fin cfg0.N) (r : Fin 512) (p : Fin 1024) : iblk m c 0 t (ix2 r p) = (tabs m c).att r.val p.val := by
  rw [← host0 m c r p]
  blk_ext [iblk, at0 t]

theorem host1 (c : Dev nD) (r : Fin 512) (p : Fin 1024) : V m c main_arg1 (ix2 r p) = (tabs m c).u r.val p.val := by
  unfold V
  simp only [hostOps0]
  after_reads_at
  simp [tabs, Data.of, FfnSpec.tab]

theorem blk1 (c : Dev nD) (t : Fin cfg0.N) (r : Fin 512) (p : Fin 1024) : iblk m c 1 t (ix2 r p) = (tabs m c).u r.val p.val := by
  rw [← host1 m c r p]
  blk_ext [iblk, at1 t]

theorem host2 (c : Dev nD) (r : Fin 512) (p : Fin 1024) : V m c main_arg2 (ix2 r p) = (tabs m c).vs r.val p.val := by
  unfold V
  simp only [hostOps0]
  after_reads_at
  simp [tabs, Data.of, FfnSpec.tab]

theorem blk2 (c : Dev nD) (t : Fin cfg0.N) (r : Fin 512) (p : Fin 1024) : iblk m c 2 t (ix2 r p) = (tabs m c).vs r.val p.val := by
  rw [← host2 m c r p]
  blk_ext [iblk, at2 t]

theorem host3 (c : Dev nD) (i : Fin 16) (p : Fin 1024) : V m c main_v4 (ix2 i p) = (tabs m c).w (p.val / 128) (i.val / 4) (i.val % 4) := by
  unfold V
  simp only [hostOps0]
  after_reads_at
  exact (tabs_w m c (p.val / 128) (i.val / 4) (i.val % 4) (by omega) (by omega) (by omega)).symm

theorem blk3 (c : Dev nD) (t : Fin cfg0.N) (i : Fin 16) (p : Fin 1024) : iblk m c 3 t (ix2 i p) = (tabs m c).w (p.val / 128) (i.val / 4) (i.val % 4) := by
  rw [← host3 m c i p]
  blk_ext [iblk, at3 t]

theorem host4 (c : Dev nD) (i : Fin 4) (p : Fin 1024) : V m c main_v8 (ix2 i p) = (tabs m c).b (p.val / 128) i.val := by
  unfold V
  simp only [hostOps0]
  after_reads_at
  exact (tabs_b m c (p.val / 128) i.val (by omega) (by omega)).symm

theorem blk4 (c : Dev nD) (t : Fin cfg0.N) (i : Fin 4) (p : Fin 1024) : iblk m c 4 t (ix2 i p) = (tabs m c).b (p.val / 128) i.val := by
  rw [← host4 m c i p]
  blk_ext [iblk, at4 t]

theorem host5 (c : Dev nD) (p : Fin 1024) : V m c main_v9 (ix2 0 p) = (tabs m c).ga p.val := by
  unfold V
  simp only [hostOps0]
  after_reads_at
  simp [tabs, Data.of, FfnSpec.tab]

theorem blk5 (c : Dev nD) (t : Fin cfg0.N) (p : Fin 1024) : iblk m c 5 t (ix2 0 p) = (tabs m c).ga p.val := by
  rw [← host5 m c p]
  blk_ext [iblk, at5 t]

theorem host6 (c : Dev nD) (p : Fin 1024) : V m c main_v10 (ix2 0 p) = (tabs m c).gs p.val := by
  unfold V
  simp only [hostOps0]
  after_reads_at
  simp [tabs, Data.of, FfnSpec.tab]

theorem blk6 (c : Dev nD) (t : Fin cfg0.N) (p : Fin 1024) : iblk m c 6 t (ix2 0 p) = (tabs m c).gs p.val := by
  rw [← host6 m c p]
  blk_ext [iblk, at6 t]

/-- The five stores of the result. -/
theorem at_idx (c : Dev nD) (t : Fin cfg0.N) (y : S512x2048.Idx) : outsAt0 m c t y = out (tabs m c) (y 0).val (y 1).val := by
  unfold outsAt0
  frame_open
  frame_out
  simp only [read_unread_whole]
  refine View.canon_apply_of_pieces (Val := Elt Ideal) (e := .bf16) (fun y : S512x2048.Idx => out (tabs m c) (y 0).val (y 1).val) _ ?_ y
    (View.cover_of_tiledBy _ ![128, 1024] (by sl_kernel_rfl) y)
  intro p hp x
  simp only [List.mem_cons, List.not_mem_nil, or_false] at hp
  rcases hp with rfl | rfl | rfl | rfl | rfl
  · idx_vars x
    have hi : (Rect.unit (s := S512x2048) ![384, 1024] ![128, 1024] inb_S512x2048_S128x1024_384_1024).emb (ix2 x0 x1)
        = (ix2 ⟨384 + x0.val, by omega⟩ ⟨1024 + x1.val, by omega⟩ : S512x2048.Idx) := by blk_ext
    refine (piece3 (tabs m c) _ _ _ _ _ (blk1 m c t) (blk2 m c t) (blk3 m c t) (blk4 m c t) (blk6 m c t) x0 x1).trans ?_
    rw [hi]
    show _ = out (tabs m c) (384 + x0.val) (1024 + x1.val)
    rw [out, if_neg (by omega), Nat.add_sub_cancel_left]
  · idx_vars x
    have hi : (Rect.unit (s := S512x2048) ![256, 1024] ![128, 1024] inb_S512x2048_S128x1024_256_1024).emb (ix2 x0 x1)
        = (ix2 ⟨256 + x0.val, by omega⟩ ⟨1024 + x1.val, by omega⟩ : S512x2048.Idx) := by blk_ext
    refine (piece2 (tabs m c) _ _ _ _ _ (blk1 m c t) (blk2 m c t) (blk3 m c t) (blk4 m c t) (blk6 m c t) x0 x1).trans ?_
    rw [hi]
    show _ = out (tabs m c) (256 + x0.val) (1024 + x1.val)
    rw [out, if_neg (by omega), Nat.add_sub_cancel_left]
  · idx_vars x
    have hi : (Rect.unit (s := S512x2048) ![128, 1024] ![128, 1024] inb_S512x2048_S128x1024_128_1024).emb (ix2 x0 x1)
        = (ix2 ⟨128 + x0.val, by omega⟩ ⟨1024 + x1.val, by omega⟩ : S512x2048.Idx) := by blk_ext
    refine (piece1 (tabs m c) _ _ _ _ _ (blk1 m c t) (blk2 m c t) (blk3 m c t) (blk4 m c t) (blk6 m c t) x0 x1).trans ?_
    rw [hi]
    show _ = out (tabs m c) (128 + x0.val) (1024 + x1.val)
    rw [out, if_neg (by omega), Nat.add_sub_cancel_left]
  · idx_vars x
    have hi : (Rect.unit (s := S512x2048) ![0, 1024] ![128, 1024] inb_S512x2048_S128x1024_0_1024).emb (ix2 x0 x1)
        = (ix2 ⟨x0.val, by omega⟩ ⟨1024 + x1.val, by omega⟩ : S512x2048.Idx) := by blk_ext
    refine (piece0 (tabs m c) _ _ _ _ _ (blk1 m c t) (blk2 m c t) (blk3 m c t) (blk4 m c t) (blk6 m c t) x0 x1).trans ?_
    rw [hi]
    show _ = out (tabs m c) (x0.val) (1024 + x1.val)
    rw [out, if_neg (by omega), Nat.add_sub_cancel_left]
  · idx_vars x
    have hi : (Rect.unit (s := S512x2048) ![0, 0] ![512, 1024] inb_S512x2048_S512x1024_0_0).emb (ix2 x0 x1)
        = (ix2 x0 ⟨x1.val, by omega⟩ : S512x2048.Idx) := by blk_ext
    refine (att_at (tabs m c) _ _ (blk0 m c t) (blk5 m c t) x0 x1).trans ?_
    rw [hi]
    show _ = out (tabs m c) x0.val x1.val
    rw [out, if_pos (by omega)]

/-- The call's result array. -/
theorem final (c : Dev nD) : (dats m 0 c).arrAt 7 cfg0.N = fun i : S512x2048.Idx => out (tabs m c) (i 0).val (i 1).val := by
  generalize hG : (fun i : S512x2048.Idx => out (tabs m c) (i 0).val (i 1).val) = G
  refine (dats m 0 c).arrAt_eq_of_covers 7 G (by decide +kernel) fun t hf y => ?_
  blk_simp
  rw [after0_7]
  idx_vars y
  have he : ((View.whole main_v11).slice (win0_7.rect t)).emb (ix2 y0 y1) = (ix2 y0 y1 : S512x2048.Idx) := by
    blk_ext [at7 t]
  rw [he, ← hG]
  exact at_idx m c t (ix2 y0 y1)

end Cert.MergeIdeal.Value
-- ==== Proof.MergeRef.lean ====
module

public import proofs.«01_k».proof.Proof.MergeSpec
public import proofs.«01_k».proof.Proof.Gen.MergeRefIdeal.Run
public import Idealize.ShloMosaic.Lib.Pointwise

/-! The reference of the merged head groups, read at an index: it holds the tables' values. -/

@[expose] public section

set_option maxRecDepth 16384
set_option maxHeartbeats 1000000

noncomputable section

namespace Cert.MergeRefIdeal.Value

open Cert.MergeRefIdeal Cert.MergeRefIdeal.Gen Idealize.ShloMosaic Idealize.ShloMosaic.TcCoe Idealize.SL.Sem Idealize.ShloMosaic.StableHlo Cert.MergeSpec

section
variable {F : FTy → Type} [FloatOps F]

/-- Rows by sequence, then by position. -/
def bySeq (a : FVec F S512x1024 .f32) : FVec F S128x4x1024 .f32 :=
  transpose S128x4x1024 [1, 0, 2] (shapeCast _ a shapeCasts_S512x1024_S4x128x1024) transposes_S4x128x1024_S128x4x1024_1_0_2

/-- The spatial gate. -/
def gated (u v : FVec F S512x1024 .f32) (w : FVec F S8x128x128 .f32) (b : FVec F S8x128 .f32) : FVec F S128x4x1024 .f32 :=
  shapeCast _ (mulf (shapeCast _ (transpose S128x4x1024 [1, 0, 2] (shapeCast _ u shapeCasts_S512x1024_S4x128x1024) transposes_S4x128x1024_S128x4x1024_1_0_2) shapeCasts_S128x4x1024_S128x4x8x128) (addf (transpose S128x4x8x128 [1, 3, 0, 2] (Host.dotGeneral dot_S128x4x8x128_S8x4x4_S8x128x128x4_1_2_03_1_2_0 none (shapeCast _ (transpose S128x4x1024 [1, 0, 2] (shapeCast _ v shapeCasts_S512x1024_S4x128x1024) transposes_S4x128x1024_S128x4x1024_1_0_2) shapeCasts_S128x4x1024_S128x4x8x128) (extractStridedSlice S8x4x4 ![0, 0, 0] (select (broadcastInDim S8x128x128 ![1, 2] bcast_S128x128_S8x128x128_1_2 (cmpi .sge (addi (iotaInDim S128x128 32 0) (broadcastInDim S128x128 ![] bcast_S_S128x128 (constantI S_ 32 0#32))) (iotaInDim S128x128 32 1))) w (broadcastInDim S8x128x128 ![] bcast_S_S8x128x128 (constant S_ .f32 0x00000000#32))) slices_S8x128x128_S8x4x4_0_0_0)) transposes_S8x128x128x4_S128x4x8x128_1_3_0_2) (broadcastInDim S128x4x8x128 ![0, 1, 2, 3] bcast_S1x4x8x1_S128x4x8x128_0_1_2_3 (broadcastInDim S1x4x8x1 ![1, 2, 3] bcast_S4x8x1_S1x4x8x1_1_2_3 (broadcastInDim S4x8x1 ![0, 1] bcast_S4x8_S4x8x1_0_1 (transpose S4x8 [1, 0] (extractStridedSlice S8x4 ![0, 0] b slices_S8x128_S8x4_0_0) transposes_S8x4_S4x8_1_0)))))) shapeCasts_S128x4x8x128_S128x4x1024

/-- The root-mean-square norm. -/
def normed (y : FVec F S128x4x1024 .f32) (g : FVec F S1024 .f32) : FVec F S128x4x1024 .f32 :=
  mulf (mulf y (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf y y) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- Two groups side by side, back by position. -/
def merged (p q : FVec F S128x4x1024 .f32) : FVec F S512x2048 .bf16 :=
  truncf .bf16 (shapeCast _ (transpose S4x128x2048 [1, 0, 2] (concatenate S128x4x2048 2 [⟨S128x4x1024, p⟩, ⟨S128x4x1024, q⟩] concatenates_S128x4x1024_S128x4x1024_S128x4x2048_d2) transposes_S128x4x2048_S4x128x2048_1_0_2) shapeCasts_S4x128x2048_S512x2048) bitsLt_bf16_f32

end

variable (m : (ℓ : Loc nD τ sig) → Buf (Elt Ideal) ℓ)

/-- The tables at the launch's arguments. -/
def tabs (c : Dev nD) : Data := Data.of (fun r k => m ((c.tc : Thread nD τ).loc main_arg0) (ix2 r k)) (fun r k => m ((c.tc : Thread nD τ).loc main_arg1) (ix2 r k))
  (fun r k => m ((c.tc : Thread nD τ).loc main_arg2) (ix2 r k)) (fun h t s => m ((c.tc : Thread nD τ).loc main_arg3) (ix3 h t s))
  (fun h t => m ((c.tc : Thread nD τ).loc main_arg4) (ix2 h t)) (fun k => m ((c.tc : Thread nD τ).loc main_arg5) (ix1 k))
  (fun k => m ((c.tc : Thread nD τ).loc main_arg6) (ix1 k))

theorem bySeq_at (a : FVec Ideal S512x1024 .f32) (f : ℕ → ℕ → EReal) (ha : ∀ (r : Fin 512) (p : Fin 1024), a (ix2 r p) = f r.val p.val)
    (b : Fin 128) (t : Fin 4) (p : Fin 1024) : bySeq (F := Ideal) a (ix3 b t p) = f (t.val * 128 + b.val) p.val := by
  pointwise [bySeq]
  rw [ha]

theorem gated_at (D : Data) (u v : FVec Ideal S512x1024 .f32) (w : FVec Ideal S8x128x128 .f32) (d : FVec Ideal S8x128 .f32)
    (hu : ∀ (r : Fin 512) (p : Fin 1024), u (ix2 r p) = D.u r.val p.val) (hv : ∀ (r : Fin 512) (p : Fin 1024), v (ix2 r p) = D.vs r.val p.val)
    (hw : ∀ (h : Fin 8) (t s : Fin 128), w (ix3 h t s) = D.w h.val t.val s.val) (hd : ∀ (h : Fin 8) (t : Fin 128), d (ix2 h t) = D.b h.val t.val)
    (b : Fin 128) (t : Fin 4) (p : Fin 1024) : gated (F := Ideal) u v w d (ix3 b t p) = gate D (t.val * 128 + b.val) p.val := by
  have e0 : (t.val * 128 + b.val) / 128 = t.val := by omega
  have e1 : (t.val * 128 + b.val) % 128 = b.val := by omega
  pointwise [gated]
  simp only [hu, hv, hw, hd, mask]
  unfold gate mixed
  rw [e0, e1]
  simp only [mul_ite, mul_zero]

theorem normed_at (y : FVec Ideal S128x4x1024 .f32) (g : FVec Ideal S1024 .f32) (z k : ℕ → EReal) (b : Fin 128) (t : Fin 4)
    (hy : ∀ p : Fin 1024, y (ix3 b t p) = z p.val) (hg : ∀ p : Fin 1024, g (ix1 p) = k p.val) (p : Fin 1024) :
    normed (F := Ideal) y g (ix3 b t p) = nrm z k p.val := by
  pointwise [normed]
  simp only [hy, hg]
  rfl

theorem merged_at (p q : FVec Ideal S128x4x1024 .f32) (r : Fin 512) (l : Fin 2048) :
    merged (F := Ideal) p q (ix2 r l) = if h : l.val < 1024 then p (ix3 ⟨r.val % 128, by omega⟩ ⟨r.val / 128, by omega⟩ ⟨l.val, h⟩)
      else q (ix3 ⟨r.val % 128, by omega⟩ ⟨r.val / 128, by omega⟩ ⟨l.val - 1024, by omega⟩) := by
  pointwise [merged]

theorem res (c : Dev nD) : res_main_v49 m c = merged (F := Ideal)
    (normed (F := Ideal) (bySeq (F := Ideal) (m ((c.tc : Thread nD τ).loc main_arg0))) (m ((c.tc : Thread nD τ).loc main_arg5)))
    (normed (F := Ideal) (gated (F := Ideal) (m ((c.tc : Thread nD τ).loc main_arg1)) (m ((c.tc : Thread nD τ).loc main_arg2)) (m ((c.tc : Thread nD τ).loc main_arg3))
      (m ((c.tc : Thread nD τ).loc main_arg4))) (m ((c.tc : Thread nD τ).loc main_arg6))) := rfl

theorem all_at (D : Data) (a u v : FVec Ideal S512x1024 .f32) (w : FVec Ideal S8x128x128 .f32) (d : FVec Ideal S8x128 .f32) (g k : FVec Ideal S1024 .f32)
    (ha : ∀ (r : Fin 512) (p : Fin 1024), a (ix2 r p) = D.att r.val p.val)
    (hu : ∀ (r : Fin 512) (p : Fin 1024), u (ix2 r p) = D.u r.val p.val) (hv : ∀ (r : Fin 512) (p : Fin 1024), v (ix2 r p) = D.vs r.val p.val)
    (hw : ∀ (h : Fin 8) (t s : Fin 128), w (ix3 h t s) = D.w h.val t.val s.val) (hd : ∀ (h : Fin 8) (t : Fin 128), d (ix2 h t) = D.b h.val t.val)
    (hg : ∀ p : Fin 1024, g (ix1 p) = D.ga p.val) (hk : ∀ p : Fin 1024, k (ix1 p) = D.gs p.val) (r : Fin 512) (l : Fin 2048) :
    merged (F := Ideal) (normed (F := Ideal) (bySeq (F := Ideal) a) g) (normed (F := Ideal) (gated (F := Ideal) u v w d) k) (ix2 r l) = out D r.val l.val := by
  have h1 : ∀ (b : Fin 128) (t : Fin 4) (p : Fin 1024), normed (F := Ideal) (bySeq (F := Ideal) a) g (ix3 b t p) = nrm (D.att (t.val * 128 + b.val)) D.ga p.val :=
    fun b t p => normed_at _ _ _ _ b t (bySeq_at a D.att ha b t) hg p
  have h2 : ∀ (b : Fin 128) (t : Fin 4) (p : Fin 1024), normed (F := Ideal) (gated (F := Ideal) u v w d) k (ix3 b t p) = nrm (gate D (t.val * 128 + b.val)) D.gs p.val :=
    fun b t p => normed_at _ _ _ _ b t (gated_at D u v w d hu hv hw hd b t) hk p
  generalize normed (F := Ideal) (bySeq (F := Ideal) a) g = x at h1 ⊢
  generalize normed (F := Ideal) (gated (F := Ideal) u v w d) k = y at h2 ⊢
  have e : r.val / 128 * 128 + r.val % 128 = r.val := by omega
  refine (merged_at x y r l).trans ?_
  unfold out
  by_cases h : l.val < 1024
  · rw [dif_pos h, if_pos h, h1]
    dsimp only
    rw [e]
  · rw [dif_neg h, if_neg h, h2]
    dsimp only
    rw [e]

/-- The reference's result. -/
theorem res_at (c : Dev nD) (r : Fin 512) (l : Fin 2048) : res_main_v49 m c (ix2 r l) = out (tabs m c) r.val l.val := by
  rw [res]
  refine all_at (tabs m c) _ _ _ _ _ _ _ (fun r p => ?_) (fun r p => ?_) (fun r p => ?_) (fun h t s => ?_) (fun h t => ?_) (fun p => ?_) (fun p => ?_) r l
  · exact (FfnSpec.tab_at (fun (r : Fin 512) (k : Fin 1024) => m ((c.tc : Thread nD τ).loc main_arg0) (ix2 r k)) r p).symm
  · exact (FfnSpec.tab_at (fun (r : Fin 512) (k : Fin 1024) => m ((c.tc : Thread nD τ).loc main_arg1) (ix2 r k)) r p).symm
  · exact (FfnSpec.tab_at (fun (r : Fin 512) (k : Fin 1024) => m ((c.tc : Thread nD τ).loc main_arg2) (ix2 r k)) r p).symm
  · exact (w_in _ _ _ (fun (h : Fin 8) (t s : Fin 128) => m ((c.tc : Thread nD τ).loc main_arg3) (ix3 h t s)) _ _ _ h.val t.val s.val h.isLt t.isLt s.isLt).symm
  · exact (FfnSpec.tab_at (fun (h : Fin 8) (t : Fin 128) => m ((c.tc : Thread nD τ).loc main_arg4) (ix2 h t)) h t).symm
  · exact (FfnSpec.tab_at (fun (_ : Fin 1) (k : Fin 1024) => m ((c.tc : Thread nD τ).loc main_arg5) (ix1 k)) 0 p).symm
  · exact (FfnSpec.tab_at (fun (_ : Fin 1) (k : Fin 1024) => m ((c.tc : Thread nD τ).loc main_arg6) (ix1 k)) 0 p).symm

end Cert.MergeRefIdeal.Value
-- ==== Proof.MergeClaim.lean ====
module

public import proofs.«01_k».proof.Defs
public import proofs.«01_k».proof.Proof.Gen.MergeIdeal.Frame
public import proofs.«01_k».proof.Proof.MergeValue
public import proofs.«01_k».proof.Proof.MergeRef

/-! The merging call against its reference: the result agrees over the extended reals. -/

@[expose] public section

set_option maxRecDepth 16384

noncomputable section

namespace Cert.MergeClaim

open Idealize.ShloMosaic Idealize.ShloMosaic.TcCoe Idealize.SL.Sem

theorem frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem value : Cert.algebraic_MergeIdeal_MergeRefIdeal (hMergeIdeal := Cert.MergeIdeal.Gen.facts) (hMergeRefIdeal := Cert.MergeRefIdeal.Gen.facts) := by
  intro m g m' g' _ hagree
  have ht : ∀ c : Dev Cert.MergeIdeal.nD, Cert.MergeRefIdeal.Value.tabs m' c = Cert.MergeIdeal.Value.tabs m c := by
    intro c
    obtain ⟨h0, h1, h2, h3, h4, h5, h6⟩ := hagree c
    unfold Cert.MergeRefIdeal.Value.tabs
    rw [h0, h1, h2, h3, h4, h5, h6]
    rfl
  refine ⟨fun c => (Cert.MergeIdeal.Gen.dats m 0 c).arrAt 7 Cert.MergeIdeal.cfg0.N, Cert.MergeIdeal.Value.run_blocks m g, ?_⟩
  refine (θ_run Cert.MergeRefIdeal.defs _ _).mono (fun r h c => ?_) (Cert.MergeRefIdeal.Value.run (F := Ideal) m' g')
  obtain ⟨r0, k⟩ := h c
  refine ⟨r0.trans (Eq.trans ?_ (Cert.MergeIdeal.Value.final m c).symm), k⟩
  funext i
  idx_vars i
  refine (Cert.MergeRefIdeal.Value.res_at m' c _ _).trans ?_
  rw [ht c]

end Cert.MergeClaim
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSRefIdeal
public import proofs.«01_k».proof.Proof.Gen.FfnSIdeal.Value
public import proofs.«01_k».proof.Proof.Gen.FfnSRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.FfnClaim
public import proofs.«01_k».proof.Proof.ProjClaim
public import proofs.«01_k».proof.Proof.OutClaim
public import proofs.«01_k».proof.Proof.FfnSClaim
public import proofs.«01_k».proof.Proof.MergeClaim
public import Idealize.ShloMosaic.Adequacy
public import Idealize.ShloMosaic.Init

@[expose] public section

noncomputable section

namespace Cert.Proof

/-- The whole claim, put together from its parts. -/
theorem claim : Cert.Claim :=
  ⟨Cert.Ffn.Gen.facts, Cert.FfnIdeal.Gen.facts, Cert.FfnRefIdeal.Gen.facts,
    Cert.Proj.Gen.facts, Cert.ProjIdeal.Gen.facts, Cert.ProjRefIdeal.Gen.facts,
    Cert.Out.Gen.facts, Cert.OutIdeal.Gen.facts, Cert.OutRefIdeal.Gen.facts,
    Cert.FfnS.Gen.facts, Cert.FfnSIdeal.Gen.facts, Cert.FfnSRefIdeal.Gen.facts,
    Cert.Merge.Gen.facts, Cert.MergeIdeal.Gen.facts, Cert.MergeRefIdeal.Gen.facts,
    fun m ρ _ => Cert.Ffn.Gen.frame m ρ, fun m ρ _ => Cert.FfnIdeal.Gen.frame m ρ, Cert.FfnClaim.frame_ref,
    fun m ρ _ => Cert.Proj.Gen.frame m ρ, fun m ρ _ => Cert.ProjIdeal.Gen.frame m ρ, Cert.ProjClaim.frame_ref,
    fun m ρ _ => Cert.Out.Gen.frame m ρ, fun m ρ _ => Cert.OutIdeal.Gen.frame m ρ, Cert.OutClaim.frame_ref,
    fun m ρ _ => Cert.FfnS.Gen.frame m ρ, fun m ρ _ => Cert.FfnSIdeal.Gen.frame m ρ, Cert.FfnSClaim.frame_ref,
    fun m ρ _ => Cert.Merge.Gen.frame m ρ, fun m ρ _ => Cert.MergeIdeal.Gen.frame m ρ, Cert.MergeClaim.frame_ref,
    trivial, Cert.FfnClaim.value, trivial, Cert.ProjClaim.value, trivial, Cert.OutClaim.value,
    trivial, Cert.FfnSClaim.value, trivial, Cert.MergeClaim.value⟩

end Cert.Proof

end
